-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x2048 : Shape := ⟨2, ![256, 2048]⟩
abbrev S2048x256 : Shape := ⟨2, ![2048, 256]⟩
abbrev S2048x2048 : Shape := ⟨2, ![2048, 2048]⟩
abbrev S21 : Shape := ⟨1, ![21]⟩
abbrev S_ : Shape := ⟨0, ![]⟩
abbrev S1 : Shape := ⟨1, ![1]⟩
abbrev S96x2048 : Shape := ⟨2, ![96, 2048]⟩
abbrev S80x2048 : Shape := ⟨2, ![80, 2048]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x256, .bf16⟩
  | .hbm, ⟨2, _⟩ => ⟨S2048x256, .f32⟩
  | .local _ .vmem, ⟨0, _⟩ => ⟨S256x2048, .bf16⟩
  | .local _ .vmem, ⟨1, _⟩ => ⟨S2048x256, .bf16⟩
  | .local _ .vmem, ⟨2, _⟩ => ⟨S2048x256, .f32⟩
  | .local _ .vmem, ⟨3, _⟩ => ⟨S2048x2048, .bf16⟩
  | .local _ .vmem, ⟨4, _⟩ => ⟨S2048x256, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 2 → Bool
  | ⟨0, _⟩ => false
  | ⟨1, _⟩ => true
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  (ofTc nBuf bufTy 2 45 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v15 : BitVec 32 := Scalar.muli v2 c256_i32
  let v16 : Index := Scalar.indexCast v15
  let c0_11 : Index := 0#32
  ![v16.toNat, 0]
def k0_off2 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v20 : BitVec 32 := Scalar.xori v2 c0_i32_12
  let c256_i32_14 : BitVec 32 := 256#32
  let v22 : BitVec 32 := Scalar.muli v20 c256_i32_14
  let c0_i32_15 : BitVec 32 := 0#32
  let v23 : BitVec 32 := Scalar.addi v22 c0_i32_15
  let c0_i32_20 : BitVec 32 := 0#32
  ![v23.toNat, 0]
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v21 : BitVec 32 := Scalar.xori v2 c1_i32_13
  let c1_i32_18 : BitVec 32 := 1#32
  let v24 : BitVec 32 := Scalar.muli v21 c1_i32_18
  let v25 : BitVec 32 := Scalar.addi c0_i32_19 v24
  v25.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_23 : BitVec 32 := 3#32
  let v33 : BitVec 32 := Scalar.xori v2 c3_i32_23
  let c1_i32_28 : BitVec 32 := 1#32
  let v36 : BitVec 32 := Scalar.muli v33 c1_i32_28
  let v37 : BitVec 32 := Scalar.addi c0_i32_29 v36
  v37.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_33 : BitVec 32 := 4#32
  let v45 : BitVec 32 := Scalar.xori v2 c4_i32_33
  let c1_i32_38 : BitVec 32 := 1#32
  let v48 : BitVec 32 := Scalar.muli v45 c1_i32_38
  let v49 : BitVec 32 := Scalar.addi c0_i32_39 v48
  v49.toNat
def k0_off3 (d0 : Dev nD) (c0_i32_42 : BitVec 32) (c96_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v56 : BitVec 32 := Scalar.xori v2 c0_i32_42
  let c256_i32_44 : BitVec 32 := 256#32
  let v58 : BitVec 32 := Scalar.muli v56 c256_i32_44
  let v59 : BitVec 32 := Scalar.addi v58 c96_i32
  let c0_i32_48 : BitVec 32 := 0#32
  ![v59.toNat, 0]
def k0_off3_at (r : Fin 8) : BitVec 32 × BitVec 32 :=
  if r.val < 4 then
    if r.val < 2 then
      if r.val < 1 then
        (0#32, 96#32)
      else
        (0#32, 176#32)
    else
      if r.val < 3 then
        (3#32, 96#32)
      else
        (4#32, 176#32)
  else
    if r.val < 6 then
      if r.val < 5 then
        (4#32, 96#32)
      else
        (7#32, 96#32)
    else
      if r.val < 7 then
        (1#32, 176#32)
      else
        (5#32, 176#32)
def k0_dev7 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_43 : BitVec 32 := 3#32
  let v57 : BitVec 32 := Scalar.xori v2 c3_i32_43
  let c1_i32_46 : BitVec 32 := 1#32
  let v60 : BitVec 32 := Scalar.muli v57 c1_i32_46
  let v61 : BitVec 32 := Scalar.addi c0_i32_47 v60
  v61.toNat
def k0_dev8 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_51 : BitVec 32 := 4#32
  let v69 : BitVec 32 := Scalar.xori v2 c4_i32_51
  let c1_i32_56 : BitVec 32 := 1#32
  let v72 : BitVec 32 := Scalar.muli v69 c1_i32_56
  let v73 : BitVec 32 := Scalar.addi c0_i32_57 v72
  v73.toNat
def k0_dev9 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_61 : BitVec 32 := 1#32
  let v81 : BitVec 32 := Scalar.xori v2 c1_i32_61
  let c1_i32_65 : BitVec 32 := 1#32
  let v84 : BitVec 32 := Scalar.muli v81 c1_i32_65
  let v85 : BitVec 32 := Scalar.addi c0_i32_66 v84
  v85.toNat
def k0_dev10 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v93 : BitVec 32 := Scalar.xori v2 c4_i32_70
  let c1_i32_73 : BitVec 32 := 1#32
  let v96 : BitVec 32 := Scalar.muli v93 c1_i32_73
  let v97 : BitVec 32 := Scalar.addi c0_i32_74 v96
  v97.toNat
def k0_dev11 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_78 : BitVec 32 := 1#32
  let v105 : BitVec 32 := Scalar.xori v2 c1_i32_78
  let c1_i32_82 : BitVec 32 := 1#32
  let v108 : BitVec 32 := Scalar.muli v105 c1_i32_82
  let v109 : BitVec 32 := Scalar.addi c0_i32_83 v108
  v109.toNat
def k0_dev12 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_87 : BitVec 32 := 3#32
  let v117 : BitVec 32 := Scalar.xori v2 c3_i32_87
  let c1_i32_91 : BitVec 32 := 1#32
  let v120 : BitVec 32 := Scalar.muli v117 c1_i32_91
  let v121 : BitVec 32 := Scalar.addi c0_i32_92 v120
  v121.toNat
def k0_off4 (d0 : Dev nD) (c1_i32_99 : BitVec 32) (c0_i32_100 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v133 : BitVec 32 := Scalar.xori v2 c1_i32_99
  let v134 : BitVec 32 := Scalar.xori v133 c0_i32_100
  let c256_i32_101 : BitVec 32 := 256#32
  let v135 : BitVec 32 := Scalar.muli v134 c256_i32_101
  let c0_i32_102 : BitVec 32 := 0#32
  let v136 : BitVec 32 := Scalar.addi v135 c0_i32_102
  let c0_i32_107 : BitVec 32 := 0#32
  ![v136.toNat, 0]
def k0_off4_at (r : Fin 7) : BitVec 32 × BitVec 32 :=
  if r.val < 3 then
    if r.val < 1 then
      (1#32, 0#32)
    else
      if r.val < 2 then
        (3#32, 0#32)
      else
        (3#32, 1#32)
  else
    if r.val < 5 then
      if r.val < 4 then
        (4#32, 0#32)
      else
        (4#32, 1#32)
    else
      if r.val < 6 then
        (4#32, 3#32)
      else
        (4#32, 2#32)
def k0_dev13 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_110 : BitVec 32 := 3#32
  let v144 : BitVec 32 := Scalar.xori v2 c3_i32_110
  let c1_i32_114 : BitVec 32 := 1#32
  let v147 : BitVec 32 := Scalar.muli v144 c1_i32_114
  let v148 : BitVec 32 := Scalar.addi c0_i32_115 v147
  v148.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_119 : BitVec 32 := 4#32
  let v156 : BitVec 32 := Scalar.xori v2 c4_i32_119
  let c1_i32_124 : BitVec 32 := 1#32
  let v159 : BitVec 32 := Scalar.muli v156 c1_i32_124
  let v160 : BitVec 32 := Scalar.addi c0_i32_125 v159
  v160.toNat
def k0_off5 (d0 : Dev nD) (c3_i32_128 : BitVec 32) (c0_i32_129 : BitVec 32) (c96_i32_131 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v167 : BitVec 32 := Scalar.xori v2 c3_i32_128
  let v168 : BitVec 32 := Scalar.xori v167 c0_i32_129
  let c256_i32_130 : BitVec 32 := 256#32
  let v169 : BitVec 32 := Scalar.muli v168 c256_i32_130
  let v170 : BitVec 32 := Scalar.addi v169 c96_i32_131
  let c0_i32_136 : BitVec 32 := 0#32
  ![v170.toNat, 0]
def k0_off5_at (r : Fin 14) : BitVec 32 × BitVec 32 × BitVec 32 :=
  if r.val < 7 then
    if r.val < 3 then
      if r.val < 1 then
        (3#32, 0#32, 96#32)
      else
        if r.val < 2 then
          (4#32, 0#32, 176#32)
        else
          (4#32, 0#32, 96#32)
    else
      if r.val < 5 then
        if r.val < 4 then
          (4#32, 3#32, 96#32)
        else
          (1#32, 0#32, 176#32)
      else
        if r.val < 6 then
          (1#32, 4#32, 176#32)
        else
          (1#32, 0#32, 96#32)
  else
    if r.val < 10 then
      if r.val < 8 then
        (1#32, 3#32, 96#32)
      else
        if r.val < 9 then
          (1#32, 4#32, 96#32)
        else
          (1#32, 7#32, 96#32)
    else
      if r.val < 12 then
        if r.val < 11 then
          (3#32, 0#32, 176#32)
        else
          (3#32, 4#32, 176#32)
      else
        if r.val < 13 then
          (3#32, 1#32, 176#32)
        else
          (3#32, 5#32, 176#32)
def k0_dev15 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_139 : BitVec 32 := 4#32
  let v178 : BitVec 32 := Scalar.xori v2 c4_i32_139
  let c1_i32_143 : BitVec 32 := 1#32
  let v181 : BitVec 32 := Scalar.muli v178 c1_i32_143
  let v182 : BitVec 32 := Scalar.addi c0_i32_144 v181
  v182.toNat
def k0_dev16 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_148 : BitVec 32 := 1#32
  let v190 : BitVec 32 := Scalar.xori v2 c1_i32_148
  let c1_i32_152 : BitVec 32 := 1#32
  let v193 : BitVec 32 := Scalar.muli v190 c1_i32_152
  let v194 : BitVec 32 := Scalar.addi c0_i32_153 v193
  v194.toNat
def k0_dev17 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_167 : BitVec 32 := 1#32
  let v212 : BitVec 32 := Scalar.xori v2 c1_i32_167
  let c1_i32_171 : BitVec 32 := 1#32
  let v215 : BitVec 32 := Scalar.muli v212 c1_i32_171
  let v216 : BitVec 32 := Scalar.addi c0_i32_172 v215
  v216.toNat
def k0_dev18 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_176 : BitVec 32 := 3#32
  let v224 : BitVec 32 := Scalar.xori v2 c3_i32_176
  let c1_i32_180 : BitVec 32 := 1#32
  let v227 : BitVec 32 := Scalar.muli v224 c1_i32_180
  let v228 : BitVec 32 := Scalar.addi c0_i32_181 v227
  v228.toNat
def k0_dev19 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_195 : BitVec 32 := 4#32
  let v246 : BitVec 32 := Scalar.xori v2 c4_i32_195
  let c1_i32_199 : BitVec 32 := 1#32
  let v249 : BitVec 32 := Scalar.muli v246 c1_i32_199
  let v250 : BitVec 32 := Scalar.addi c0_i32_200 v249
  v250.toNat
def k0_dev20 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_213 : BitVec 32 := 4#32
  let v267 : BitVec 32 := Scalar.xori v2 c4_i32_213
  let c1_i32_217 : BitVec 32 := 1#32
  let v270 : BitVec 32 := Scalar.muli v267 c1_i32_217
  let v271 : BitVec 32 := Scalar.addi c0_i32_218 v270
  v271.toNat
def k0_dev21 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_232 : BitVec 32 := 1#32
  let v289 : BitVec 32 := Scalar.xori v2 c1_i32_232
  let c1_i32_236 : BitVec 32 := 1#32
  let v292 : BitVec 32 := Scalar.muli v289 c1_i32_236
  let v293 : BitVec 32 := Scalar.addi c0_i32_237 v292
  v293.toNat
def k0_dev22 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_250 : BitVec 32 := 1#32
  let v310 : BitVec 32 := Scalar.xori v2 c1_i32_250
  let c1_i32_254 : BitVec 32 := 1#32
  let v313 : BitVec 32 := Scalar.muli v310 c1_i32_254
  let v314 : BitVec 32 := Scalar.addi c0_i32_255 v313
  v314.toNat
def k0_dev23 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_269 : BitVec 32 := 3#32
  let v332 : BitVec 32 := Scalar.xori v2 c3_i32_269
  let c1_i32_273 : BitVec 32 := 1#32
  let v335 : BitVec 32 := Scalar.muli v332 c1_i32_273
  let v336 : BitVec 32 := Scalar.addi c0_i32_274 v335
  v336.toNat
def k0_dev24 (d0 : Dev nD) : Nat :=
  let c0_i32_292 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_287 : BitVec 32 := 3#32
  let v353 : BitVec 32 := Scalar.xori v2 c3_i32_287
  let c1_i32_291 : BitVec 32 := 1#32
  let v356 : BitVec 32 := Scalar.muli v353 c1_i32_291
  let v357 : BitVec 32 := Scalar.addi c0_i32_292 v356
  v357.toNat
def k0_dev25 (d0 : Dev nD) : Nat :=
  let c0_i32_519_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_518_r0 : BitVec 32 := 1#32
  let v564_r0 : BitVec 32 := Scalar.muli v3 c1_i32_518_r0
  let v565_r0 : BitVec 32 := Scalar.addi c0_i32_519_r0 v564_r0
  v565_r0.toNat
def k0_dev26 (d0 : Dev nD) : Nat :=
  let c0_i32_522_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_521_r0 : BitVec 32 := 1#32
  let v566_r0 : BitVec 32 := Scalar.muli v4 c1_i32_521_r0
  let v567_r0 : BitVec 32 := Scalar.addi c0_i32_522_r0 v566_r0
  v567_r0.toNat
def k0_dev27 (d0 : Dev nD) : Nat :=
  let c0_i32_525_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_524_r0 : BitVec 32 := 1#32
  let v568_r0 : BitVec 32 := Scalar.muli v5 c1_i32_524_r0
  let v569_r0 : BitVec 32 := Scalar.addi c0_i32_525_r0 v568_r0
  v569_r0.toNat
abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Tables.lean ====
/-
The routing of the gather: eight devices, three stripes of rows, twenty-one transfers sent by each device.
Only numbers and sets of rows here, no memory.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic
open Idealize.ShloMosaic.TcCoe

/-! ## Transfers -/

/-- The number of a transfer: seven for each of the three stripes. -/
abbrev Tr : Type := Fin 21

set_option backward.proofsInPublic true in
/-- The device whose number differs from `c`'s in the bits of `k`. -/
def pr (c : Dev nD) (k : Fin 8) : Dev nD := ⟨(c.val ^^^ k.val) % 8, Nat.mod_lt _ (by decide)⟩

/-- The stripe a transfer carries. -/
def jj : Tr → Fin 3 := ![0, 0, 0, 0, 0, 0, 0, 1, 1, 1, 1, 1, 1, 1, 2, 2, 2, 2, 2, 2, 2]
/-- The round a transfer belongs to. -/
def rr : Tr → Fin 4 := ![0, 1, 1, 2, 2, 2, 2, 0, 1, 1, 2, 2, 2, 2, 0, 1, 1, 2, 2, 2, 2]
/-- Which of the three partners a transfer goes to. -/
def mi : Tr → Fin 3 := ![0, 1, 1, 2, 2, 2, 2, 1, 2, 2, 0, 0, 0, 0, 2, 0, 0, 1, 1, 1, 1]
/-- The three partners' masks. -/
def mk : Fin 3 → Fin 8 := ![1, 3, 4]
/-- The mask of a transfer's partner. -/
def om (s : Tr) : Fin 8 := mk (mi s)
/-- The mask, seen from the sender, of the device whose rows a transfer carries. -/
def gm : Tr → Fin 8 := ![0, 0, 1, 0, 1, 3, 2, 0, 0, 3, 0, 3, 4, 7, 0, 0, 4, 0, 4, 1, 5]
/-- The same mask seen from the receiver. -/
def mu : Tr → Fin 8 := ![1, 3, 2, 4, 5, 7, 6, 3, 4, 7, 1, 2, 5, 6, 4, 1, 5, 3, 7, 2, 6]

/-- The place of a transfer in the order in which a device starts (and later drains) its own. -/
def posS : Tr → ℕ := ![0, 1, 9, 2, 10, 15, 16, 3, 4, 11, 5, 12, 17, 18, 6, 7, 13, 8, 14, 19, 20]
/-- The place of a transfer in the order in which a device awaits its partners'. -/
def posR : Tr → ℕ := ![0, 3, 4, 9, 10, 11, 12, 1, 5, 6, 13, 14, 15, 16, 2, 7, 8, 17, 18, 19, 20]

/-- No two transfers start at the same place. -/
theorem posS_inj (s t : Tr) (h : posS s = posS t) : s = t := by revert s t; decide
/-- No two transfers are awaited at the same place. -/
theorem posR_inj (s t : Tr) (h : posR s = posR t) : s = t := by revert s t; decide
/-- Every place is below twenty-one. -/
theorem posS_lt (s : Tr) : posS s < 21 := by revert s; decide
/-- Every place is below twenty-one. -/
theorem posR_lt (s : Tr) : posR s < 21 := by revert s; decide

/-- Two hops along the same mask lead back. -/
theorem pr_pr (c : Dev nD) (k : Fin 8) : pr (pr c k) k = c := by revert c k; decide
/-- The mask zero is the device itself. -/
theorem pr_zero (c : Dev nD) : pr c 0 = c := by revert c; decide
/-- The rows a transfer carries are the same rows at both ends. -/
theorem pr_mu (c : Dev nD) (s : Tr) : pr (pr c (om s)) (mu s) = pr c (gm s) := by revert c s; decide

/-- The involution along one mask. -/
def hop (k : Fin 8) : Dev nD ≃ Dev nD := ⟨fun c => pr c k, fun c => pr c k, fun c => pr_pr c k, fun c => pr_pr c k⟩

/-- From one device, the masks number all devices. -/
def around (c : Dev nD) : Fin 8 ≃ Dev nD := Equiv.ofBijective (pr c) (by revert c; decide)

/-- A share of a stripe of one device's rows: the stripe, the device's mask, the number of the share. -/
abbrev Pc : Type := Fin 3 × Fin 8
/-- Where a transfer reads. -/
def src (s : Tr) : Pc := (jj s, gm s)
/-- Where a transfer lands, seen from the receiver. -/
def dst (s : Tr) : Pc := (jj s, mu s)

/-- The places of a device: its own three stripes and the twenty-one landing places. -/
def places : Fin 3 ⊕ Tr ≃ Pc :=
  Equiv.ofBijective (Sum.elim (fun j => (j, 0)) dst) (by decide +kernel)

/-- After `b` awaited transfers a device holds its own stripes and what has landed. -/
abbrev Got (b : ℕ) (p : Pc) : Prop := p.2 = 0 ∨ ∃ s : Tr, posR s < b ∧ dst s = p
/-- After `a` starts and `d` drains the share `i` of place `p` is lent to a transfer. -/
abbrev Lent (a d : ℕ) (p : Pc) (i : Fin 4) : Prop := ∃ s : Tr, d ≤ posS s ∧ posS s < a ∧ src s = p ∧ rr s = i

/-- Two transfers never read the same share of the same place. -/
theorem src_inj (s t : Tr) (h : src s = src t) (h' : rr s = rr t) : s = t := by revert s t; decide
/-- Two transfers never land at the same place. -/
theorem dst_inj (s t : Tr) (h : dst s = dst t) : s = t := by revert s t; decide
/-- No transfer lands on the own stripes. -/
theorem mu_ne (s : Tr) : (dst s).2 ≠ 0 := by revert s; decide

/-- The next start lends one share and nothing else. -/
theorem lent_start {a d : ℕ} {s : Tr} (hs : posS s = a) (p : Pc) (i : Fin 4) (h : p ≠ src s ∨ i ≠ rr s) :
    Lent (a + 1) d p i ↔ Lent a d p i := by
  constructor
  · rintro ⟨t, h1, h2, h3, h4⟩
    refine ⟨t, h1, ?_, h3, h4⟩
    have : posS t ≠ a := fun e => by
      have := posS_inj t s (e.trans hs.symm); subst this
      rcases h with h | h
      · exact h h3.symm
      · exact h h4.symm
    omega
  · rintro ⟨t, h1, h2, h3⟩
    exact ⟨t, h1, by omega, h3⟩

/-- The share the next start reads is lent afterwards. -/
theorem lent_started {a d : ℕ} {s : Tr} (hs : posS s = a) (hd : d ≤ a) : Lent (a + 1) d (src s) (rr s) :=
  ⟨s, by omega, by omega, rfl, rfl⟩

/-- The share the next start reads is not lent before. -/
theorem not_lent_start {a d : ℕ} {s : Tr} (hs : posS s = a) : ¬ Lent a d (src s) (rr s) := by
  rintro ⟨t, h1, h2, h3, h4⟩
  have := src_inj t s h3 h4; subst this; omega

/-- The next drain gives back one share and nothing else. -/
theorem lent_drain {a d : ℕ} {s : Tr} (hs : posS s = d) (p : Pc) (i : Fin 4) (h : p ≠ src s ∨ i ≠ rr s) :
    Lent a (d + 1) p i ↔ Lent a d p i := by
  constructor
  · rintro ⟨t, h1, h2, h3⟩
    exact ⟨t, by omega, h2, h3⟩
  · rintro ⟨t, h1, h2, h3, h4⟩
    refine ⟨t, ?_, h2, h3, h4⟩
    have : posS t ≠ d := fun e => by
      have := posS_inj t s (e.trans hs.symm); subst this
      rcases h with h | h
      · exact h h3.symm
      · exact h h4.symm
    omega

/-- The share the next drain gives back is lent before. -/
theorem lent_drained {a d : ℕ} {s : Tr} (hs : posS s = d) (hd : d < a) : Lent a d (src s) (rr s) :=
  ⟨s, by omega, by omega, rfl, rfl⟩

/-- The share the next drain gives back is not lent afterwards. -/
theorem not_lent_drain {a d : ℕ} {s : Tr} (hs : posS s = d) : ¬ Lent a (d + 1) (src s) (rr s) := by
  rintro ⟨t, h1, h2, h3, h4⟩
  have := src_inj t s h3 h4; subst this; omega

/-- The next awaited transfer fills one place and nothing else. -/
theorem got_recv {b : ℕ} {s : Tr} (hs : posR s = b) (p : Pc) (h : p ≠ dst s) : Got (b + 1) p ↔ Got b p := by
  refine or_congr Iff.rfl ⟨?_, ?_⟩
  · rintro ⟨t, h1, h2⟩
    refine ⟨t, ?_, h2⟩
    have : posR t ≠ b := fun e => by
      have := posR_inj t s (e.trans hs.symm); subst this; exact h h2.symm
    omega
  · rintro ⟨t, h1, h2⟩
    exact ⟨t, by omega, h2⟩

/-- The place the next awaited transfer fills is filled afterwards. -/
theorem got_recvd {b : ℕ} {s : Tr} (hs : posR s = b) : Got (b + 1) (dst s) := Or.inr ⟨s, by omega, rfl⟩

/-- The place the next awaited transfer fills is not filled before. -/
theorem not_got_recv {b : ℕ} {s : Tr} (hs : posR s = b) : ¬ Got b (dst s) := by
  rintro (h | ⟨t, h1, h2⟩)
  · exact mu_ne s h
  · have := dst_inj t s h2; subst this; omega

/-! ## Rows -/

/-- The first row of a stripe within a block. -/
def ro : Fin 3 → ℕ := ![0, 96, 176]
/-- The number of rows of a stripe. -/
def rl : Fin 3 → ℕ := ![96, 80, 80]

/-- The elements of stripe `j` of device `o`'s rows in the gathered matrix. -/
def slot (j : Fin 3) (o : Dev nD) : Finset S2048x2048.Idx :=
  Finset.univ.filter fun i => 256 * o.val + ro j ≤ (i 0).val ∧ (i 0).val < 256 * o.val + ro j + rl j

/-- Membership in a stripe is a condition on the row. -/
theorem mem_slot {j : Fin 3} {o : Dev nD} {i : S2048x2048.Idx} :
    i ∈ slot j o ↔ 256 * o.val + ro j ≤ (i 0).val ∧ (i 0).val < 256 * o.val + ro j + rl j := by
  unfold slot; rw [Finset.mem_filter]; exact and_iff_right (Finset.mem_univ _)

/-- The row bounds of the stripes: they follow one another inside a block. -/
theorem stripe_cases (j : Fin 3) : (j = 0 ∧ ro j = 0 ∧ rl j = 96) ∨ (j = 1 ∧ ro j = 96 ∧ rl j = 80) ∨ (j = 2 ∧ ro j = 176 ∧ rl j = 80) := by
  revert j; decide

/-- Different stripes are disjoint. -/
theorem slot_disjoint (c : Dev nD) (p p' : Pc) (h : p ≠ p') : Disjoint (slot p.1 (pr c p.2)) (slot p'.1 (pr c p'.2)) := by
  rw [Finset.disjoint_left]
  intro i hi hi'
  rw [mem_slot] at hi hi'
  obtain ⟨j, k⟩ := p
  obtain ⟨j', k'⟩ := p'
  dsimp only at hi hi'
  have e : (pr c k).val = (pr c k').val := by
    rcases stripe_cases j with ⟨-, h1, h2⟩ | ⟨-, h1, h2⟩ | ⟨-, h1, h2⟩ <;>
    rcases stripe_cases j' with ⟨-, h3, h4⟩ | ⟨-, h3, h4⟩ | ⟨-, h3, h4⟩ <;>
    rw [h1, h2] at hi <;> rw [h3, h4] at hi' <;> omega
  have ek : k = k' := (around c).injective (Fin.ext e)
  subst ek
  apply h
  rcases stripe_cases j with ⟨h0, h1, h2⟩ | ⟨h0, h1, h2⟩ | ⟨h0, h1, h2⟩ <;>
  rcases stripe_cases j' with ⟨h5, h3, h4⟩ | ⟨h5, h3, h4⟩ | ⟨h5, h3, h4⟩ <;>
  first
  | (exfalso; rw [h1, h2] at hi; rw [h3, h4] at hi'; omega)
  | (rw [h0, h5])

/-- The stripes cover the matrix. -/
theorem slot_cover (c : Dev nD) : (Finset.univ : Finset Pc).biUnion (fun p => slot p.1 (pr c p.2)) = Finset.univ := by
  refine Finset.eq_univ_of_forall fun i => ?_
  have hi : (i 0).val < 2048 := (i 0).isLt
  obtain ⟨k, hk⟩ := (around c).surjective ⟨(i 0).val / 256, by show _ < 8; omega⟩
  have hk' : (pr c k).val = (i 0).val / 256 := congrArg Fin.val hk
  rw [Finset.mem_biUnion]
  rcases Nat.lt_or_ge ((i 0).val % 256) 96 with h | h
  · exact ⟨(0, k), Finset.mem_univ _, mem_slot.mpr (by rw [hk']; show _ + 0 ≤ _ ∧ _ < _ + 0 + 96; omega)⟩
  · rcases Nat.lt_or_ge ((i 0).val % 256) 176 with h' | h'
    · exact ⟨(1, k), Finset.mem_univ _, mem_slot.mpr (by rw [hk']; show _ + 96 ≤ _ ∧ _ < _ + 96 + 80; omega)⟩
    · exact ⟨(2, k), Finset.mem_univ _, mem_slot.mpr (by rw [hk']; show _ + 176 ≤ _ ∧ _ < _ + 176 + 80; omega)⟩

/-! ## What the kernel computes of its device number -/

/-- The partner that printed device number 1 names. -/
theorem dev1_eq (c : Dev nD) : k0_dev1 c = (pr c (mk 0)).val := by revert c; decide
/-- The partner that printed device number 2 names. -/
theorem dev2_eq (c : Dev nD) : k0_dev2 c = (pr c (mk 1)).val := by revert c; decide
/-- The partner that printed device number 3 names. -/
theorem dev3_eq (c : Dev nD) : k0_dev3 c = (pr c (mk 2)).val := by revert c; decide
/-- The partner that printed device number 4 names. -/
theorem dev4_eq (c : Dev nD) : k0_dev4 c = (pr c (om 0)).val := by revert c; decide
/-- The partner that printed device number 5 names. -/
theorem dev5_eq (c : Dev nD) : k0_dev5 c = (pr c (om 1)).val := by revert c; decide
/-- The partner that printed device number 6 names. -/
theorem dev6_eq (c : Dev nD) : k0_dev6 c = (pr c (om 3)).val := by revert c; decide
/-- The partner that printed device number 7 names. -/
theorem dev7_eq (c : Dev nD) : k0_dev7 c = (pr c (om 7)).val := by revert c; decide
/-- The partner that printed device number 8 names. -/
theorem dev8_eq (c : Dev nD) : k0_dev8 c = (pr c (om 8)).val := by revert c; decide
/-- The partner that printed device number 9 names. -/
theorem dev9_eq (c : Dev nD) : k0_dev9 c = (pr c (om 10)).val := by revert c; decide
/-- The partner that printed device number 10 names. -/
theorem dev10_eq (c : Dev nD) : k0_dev10 c = (pr c (om 14)).val := by revert c; decide
/-- The partner that printed device number 11 names. -/
theorem dev11_eq (c : Dev nD) : k0_dev11 c = (pr c (om 15)).val := by revert c; decide
/-- The partner that printed device number 12 names. -/
theorem dev12_eq (c : Dev nD) : k0_dev12 c = (pr c (om 17)).val := by revert c; decide
/-- The partner that printed device number 13 names. -/
theorem dev13_eq (c : Dev nD) : k0_dev13 c = (pr c (om 2)).val := by revert c; decide
/-- The partner that printed device number 14 names. -/
theorem dev14_eq (c : Dev nD) : k0_dev14 c = (pr c (om 4)).val := by revert c; decide
/-- The partner that printed device number 15 names. -/
theorem dev15_eq (c : Dev nD) : k0_dev15 c = (pr c (om 9)).val := by revert c; decide
/-- The partner that printed device number 16 names. -/
theorem dev16_eq (c : Dev nD) : k0_dev16 c = (pr c (om 11)).val := by revert c; decide
/-- The partner that printed device number 17 names. -/
theorem dev17_eq (c : Dev nD) : k0_dev17 c = (pr c (om 16)).val := by revert c; decide
/-- The partner that printed device number 18 names. -/
theorem dev18_eq (c : Dev nD) : k0_dev18 c = (pr c (om 18)).val := by revert c; decide
/-- The partner that printed device number 19 names. -/
theorem dev19_eq (c : Dev nD) : k0_dev19 c = (pr c (om 5)).val := by revert c; decide
/-- The partner that printed device number 20 names. -/
theorem dev20_eq (c : Dev nD) : k0_dev20 c = (pr c (om 6)).val := by revert c; decide
/-- The partner that printed device number 21 names. -/
theorem dev21_eq (c : Dev nD) : k0_dev21 c = (pr c (om 12)).val := by revert c; decide
/-- The partner that printed device number 22 names. -/
theorem dev22_eq (c : Dev nD) : k0_dev22 c = (pr c (om 13)).val := by revert c; decide
/-- The partner that printed device number 23 names. -/
theorem dev23_eq (c : Dev nD) : k0_dev23 c = (pr c (om 19)).val := by revert c; decide
/-- The partner that printed device number 24 names. -/
theorem dev24_eq (c : Dev nD) : k0_dev24 c = (pr c (om 20)).val := by revert c; decide
/-- The partner that printed device number 25 names. -/
theorem dev25_eq (c : Dev nD) : k0_dev25 c = (pr c (mk 0)).val := by revert c; decide
/-- The partner that printed device number 26 names. -/
theorem dev26_eq (c : Dev nD) : k0_dev26 c = (pr c (mk 1)).val := by revert c; decide
/-- The partner that printed device number 27 names. -/
theorem dev27_eq (c : Dev nD) : k0_dev27 c = (pr c (mk 2)).val := by revert c; decide

/-- Where a device's own block begins in the gathered matrix. -/
theorem off1_eq (c : Dev nD) : k0_off1 c = ![256 * c.val, 0] := by revert c; decide
/-- Where the first stripe of the block at mask 0 begins. -/
theorem off2_0 (c : Dev nD) : k0_off2 c 0#32 = ![256 * (pr c 0).val + ro 0, 0] := by revert c; decide
/-- Where the first stripe of the block at mask 1 begins. -/
theorem off2_1 (c : Dev nD) : k0_off2 c 1#32 = ![256 * (pr c 1).val + ro 0, 0] := by revert c; decide
/-- Where the first stripe of the block at mask 2 begins. -/
theorem off2_2 (c : Dev nD) : k0_off2 c 2#32 = ![256 * (pr c 2).val + ro 0, 0] := by revert c; decide
/-- Where the first stripe of the block at mask 3 begins. -/
theorem off2_3 (c : Dev nD) : k0_off2 c 3#32 = ![256 * (pr c 3).val + ro 0, 0] := by revert c; decide
/-- Where the second stripe of the block at mask 0 begins. -/
theorem off3_0 (c : Dev nD) : k0_off3 c 0#32 96#32 = ![256 * (pr c 0).val + ro 1, 0] := by revert c; decide
/-- Where the second stripe of the block at mask 3 begins. -/
theorem off3_3 (c : Dev nD) : k0_off3 c 3#32 96#32 = ![256 * (pr c 3).val + ro 1, 0] := by revert c; decide
/-- Where the second stripe of the block at mask 4 begins. -/
theorem off3_4 (c : Dev nD) : k0_off3 c 4#32 96#32 = ![256 * (pr c 4).val + ro 1, 0] := by revert c; decide
/-- Where the second stripe of the block at mask 7 begins. -/
theorem off3_7 (c : Dev nD) : k0_off3 c 7#32 96#32 = ![256 * (pr c 7).val + ro 1, 0] := by revert c; decide
/-- Where the third stripe of the block at mask 0 begins. -/
theorem off3_0' (c : Dev nD) : k0_off3 c 0#32 176#32 = ![256 * (pr c 0).val + ro 2, 0] := by revert c; decide
/-- Where the third stripe of the block at mask 4 begins. -/
theorem off3_4' (c : Dev nD) : k0_off3 c 4#32 176#32 = ![256 * (pr c 4).val + ro 2, 0] := by revert c; decide
/-- Where the third stripe of the block at mask 1 begins. -/
theorem off3_1' (c : Dev nD) : k0_off3 c 1#32 176#32 = ![256 * (pr c 1).val + ro 2, 0] := by revert c; decide
/-- Where the third stripe of the block at mask 5 begins. -/
theorem off3_5' (c : Dev nD) : k0_off3 c 5#32 176#32 = ![256 * (pr c 5).val + ro 2, 0] := by revert c; decide

end Cert.Gather

end
-- ==== Proof.Protocol.lean ====
/-
The protocol of the gather: what the matrix holds, which semaphore cell stands for what, what each cell hands over,
what each device owes at the start, and the levels that order the waits.
-/
module

public import proofs.«01_k».proof.Proof.Tables
public import Idealize.ShloMosaic.Lib.Pointwise.Index
public import Idealize.ShloMosaic.Lib.ShareLeaves

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ShareLeaves

variable {F : FTy → Type} [FloatOps F]

/-- The ghost state: the pipeline's rounds beside the gather's, whose cells have up to three duties. -/
abbrev UU : Type := UR sig nD τ × URounds (GSem nD τ sig) (Fin 3)

local notation "𝕄" => MT nD τ sig Unit (Elt F) ℕ UU ℕ

/-- Where the pipeline's ghost state lies. -/
abbrev EP : Emb (UR sig nD τ) (MT nD τ sig Unit (Elt F) ℕ UU ℕ) := embL
/-- Where the protocol's ghost state lies. -/
abbrev ER : Emb (URounds (GSem nD τ sig) (Fin 3)) (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Contents -/

/-- The gathered matrix in the kernel's memory. -/
abbrev cM : Memref sig .tc .vmem S2048x2048 .bf16 := Memref.whole cc0_scratch0

/-- A device's block of the left operand, as staged. -/
def xstg (c : Dev nD) : S256x2048.Idx → Elt F .bf16 := m ((c : Thread nD τ).loc main_arg0)
/-- A device's block of the right operand, as staged. -/
def wstg (c : Dev nD) : S2048x256.Idx → Elt F .bf16 := m ((c : Thread nD τ).loc main_arg1)

/-- The gathered matrix: row `256 o + r` is row `r` of device `o`'s block. -/
def gath : S2048x2048.Idx → Elt F .bf16 := fun i =>
  have h : (i 0).val < 2048 := (i 0).isLt
  xstg m ⟨(i 0).val / 256, by show _ < 8; omega⟩ (ix2 ⟨(i 0).val % 256, Nat.mod_lt _ (by decide)⟩ (i 1))

/-- Elements `I` of device `c`'s gathered matrix, at share `q`, holding `f`. -/
def cPts (c : Dev nD) (I : Finset S2048x2048.Idx) (q : PosShare TreeShare) (f : S2048x2048.Idx → Elt F .bf16) : sProp 𝕄 :=
  (cM.view.loc (c : Thread nD τ)) ↦[I]{q} f

omit [FloatOps F] in
/-- Part of the gathered matrix may be handed through a cell. -/
instance cPts_storable (c : Dev nD) (I) (q) (f : S2048x2048.Idx → Elt F .bf16) :
    BI.Storable (upEmb : UEmb _ 𝕄) (cPts c I q f) := by unfold cPts; infer_instance

/-- The share of a place that the transfers of one round read; the fourth stays. -/
def shr (i : Fin 4) : PosShare TreeShare := leaf 2 fullShare i

/-- One share of one place of device `c`, gathered. -/
def piece (c : Dev nD) (p : Pc) (i : Fin 4) : sProp 𝕄 := cPts c (slot p.1 (pr c p.2)) (shr i) (gath m)
/-- A whole place of device `c`, gathered. -/
def full (c : Dev nD) (p : Pc) : sProp 𝕄 := cPts c (slot p.1 (pr c p.2)) fullShare (gath m)
/-- The place where transfer `s` lands on device `c`, holding anything. -/
def land (c : Dev nD) (s : Tr) : sProp 𝕄 := iprop(∃ f, cPts (F := F) c (slot (dst s).1 (pr c (dst s).2)) fullShare f)

omit [FloatOps F] in
/-- A share of a piece may be handed through a cell. -/
instance piece_storable (c : Dev nD) (p i) : BI.Storable (upEmb : UEmb _ 𝕄) (piece m c p i) := by unfold piece; infer_instance
omit [FloatOps F] in
/-- A whole piece may be handed through a cell. -/
instance full_storable (c : Dev nD) (p) : BI.Storable (upEmb : UEmb _ 𝕄) (full m c p) := by unfold full; infer_instance
omit [FloatOps F] in
/-- A landing place may be handed through a cell. -/
instance land_storable (c : Dev nD) (s) : BI.Storable (upEmb : UEmb _ 𝕄) (land (F := F) c s) := by unfold land; infer_instance

omit [FloatOps F] in
/-- A whole place is its four shares. -/
theorem full_eq (c : Dev nD) (p : Pc) : full m c p = bigSep Finset.univ fun i : Fin 4 => piece m c p i :=
  pointsTo_leaves (nD := nD) (τ := τ) (sig := sig) (ℓ := cM.view.loc (c : Thread nD τ)) _ _ 2 fullShare

/-! ## Cells -/

/-- The entry barrier's semaphore, the runtime's. -/
abbrev barS : Sem sig := (SemArray.scalar (sig.barrier 0 rfl) : Sems sig S_).sem
/-- The exit barrier's semaphore, the kernel's own. -/
abbrev endS : Sem sig := (cc0_scoped0 : Sems sig S_).sem
/-- The send semaphore of a transfer. -/
def sendS (s : Tr) : DmaSem sig := ⟨s.val + 3, by have := s.isLt; show _ < 45; omega⟩
/-- The receive semaphore of a transfer. -/
def recvS (s : Tr) : DmaSem sig := ⟨s.val + 24, by have := s.isLt; show _ < 45; omega⟩
/-- The transfer a semaphore belongs to. -/
def trOf (q : DmaSem sig) : Tr := ⟨(q.val + 18) % 21, Nat.mod_lt _ (by decide)⟩

/-- The transfer of a send semaphore. -/
theorem trOf_send (s : Tr) : trOf (sendS s) = s := by revert s; decide
/-- The transfer of a receive semaphore. -/
theorem trOf_recv (s : Tr) : trOf (recvS s) = s := by revert s; decide
/-- Send semaphores come before the receive semaphores. -/
theorem send_lt (s : Tr) : (sendS s).val < 24 := by have := s.isLt; show s.val + 3 < 24; omega
/-- Receive semaphores come after the send semaphores. -/
theorem recv_nlt (s : Tr) : ¬ (recvS s).val < 24 := by show ¬ s.val + 24 < 24; omega
/-- The two barriers are distinct semaphores. -/
theorem barS_ne : barS ≠ endS := by decide

/-- Device `c`'s entry barrier. -/
abbrev barCell (c : Dev nD) : GSem nD τ sig := ((c : Thread nD τ), .reg barS)
/-- Device `c`'s exit barrier. -/
abbrev endCell (c : Dev nD) : GSem nD τ sig := ((c : Thread nD τ), .reg endS)
/-- Device `c`'s send cell of transfer `s`. -/
abbrev sendCell (c : Dev nD) (s : Tr) : GSem nD τ sig := ((c : Thread nD τ), .dma (sendS s))
/-- Device `c`'s receive cell of transfer `s`. -/
abbrev recvCell (c : Dev nD) (s : Tr) : GSem nD τ sig := ((c : Thread nD τ), .dma (recvS s))

/-- The credit of a transfer of `r` rows. -/
abbrev credit (r : ℕ) : ℕ := sig.dmaCredit .tc (Kind.tc.table .vmem) cM.view.buf ⟨2, ![r, 2048]⟩ .bf16
/-- The credit of a transfer. -/
def N (s : Tr) : ℕ := credit (rl (jj s))

/-- Every transfer moves something. -/
theorem N_pos (s : Tr) : 0 < N s := by
  unfold N credit
  refine sig.dmaCredit_pos _ _ _ _ _ ?_
  generalize jj s = j
  revert j; decide

/-- What device `pr c (mk d)` hands device `c` at the entry barrier: where `c`'s transfers to it land. -/
def barPay (c : Dev nD) (d : Fin 3) : sProp 𝕄 :=
  bigSep (Finset.univ.filter fun s : Tr => mi s = d) fun s => land (F := F) (pr c (mk d)) s

omit [FloatOps F] in
/-- What an entry signal hands over may be handed through a cell. -/
instance barPay_storable (c : Dev nD) (d) : BI.Storable (upEmb : UEmb _ 𝕄) (barPay (F := F) c d) := by
  unfold barPay; infer_instance

/-- The schedule: one round for every cell. A barrier cell has three duties of one unit, one per partner; the cells of
    a transfer have one duty, the transfer's credit. -/
def sched : Rounds.Schedule (GSem nD τ sig) (Fin 3) 𝕄 where
  duties g r := if r = 0 ∧ g.1.2 = .tc then (match g.2 with | .reg _ => Finset.univ | .dma q => {0}) else ∅
  unitless _ := False
  amount g _ _ := match g.2 with | .reg _ => 1 | .dma q => N (trOf q)
  payload g _ d := match g.2 with
    | .reg q => if q = barS then barPay g.1.1 d else iprop(emp)
    | .dma q => if q.val < 24 then piece m g.1.1 (src (trOf q)) (rr (trOf q)) else full m g.1.1 (dst (trOf q))
  amount_pos g _ _ _ := by
    match g with
    | (_, .reg _) => exact Nat.one_pos
    | (_, .dma q) => exact N_pos _

omit [FloatOps F] in
/-- Whatever the protocol hands over may be handed through a cell. -/
instance sched_storable (g : GSem nD τ sig) (r : ℕ) (d : Fin 3) :
    BI.Storable (upEmb : UEmb _ 𝕄) ((sched (F := F) m).payload g r d) := by
  match g with
  | (t, .reg q) =>
    show BI.Storable upEmb (if q = barS then barPay t.1 d else iprop(emp))
    split <;> infer_instance
  | (t, .dma q) =>
    show BI.Storable upEmb (if q.val < 24 then piece m t.1 (src (trOf q)) (rr (trOf q)) else full m t.1 (dst (trOf q)))
    split <;> infer_instance

section Sched
variable (c : Dev nD) (s : Tr) (d : Fin 3)

omit [FloatOps F] in
/-- A barrier has three duties. -/
theorem duties_reg (q : Sem sig) : (sched (F := F) m).duties ((c : Thread nD τ), .reg q) 0 = Finset.univ := by dsimp only [sched]; exact if_pos ⟨rfl, rfl⟩
omit [FloatOps F] in
/-- A transfer's cell has one duty. -/
theorem duties_dma (q : DmaSem sig) : (sched (F := F) m).duties ((c : Thread nD τ), .dma q) 0 = {0} := by dsimp only [sched]; exact if_pos ⟨rfl, rfl⟩
omit [FloatOps F] in
/-- No cell has a second round. -/
theorem duties_later (g : GSem nD τ sig) : ∀ r, 1 ≤ r → (sched (F := F) m).duties g r = ∅ :=
  fun r hr => if_neg fun h => by omega
omit [FloatOps F] in
/-- Each signal of a barrier is one unit. -/
theorem amount_reg (q : Sem sig) : (sched (F := F) m).amount ((c : Thread nD τ), .reg q) 0 d = 1 := rfl
omit [FloatOps F] in
/-- A send cell is paid the transfer's units. -/
theorem amount_send : (sched (F := F) m).amount (sendCell c s) 0 d = N s := by
  show N (trOf (sendS s)) = N s; rw [trOf_send]
omit [FloatOps F] in
/-- A receive cell is paid the transfer's units. -/
theorem amount_recv : (sched (F := F) m).amount (recvCell c s) 0 d = N s := by
  show N (trOf (recvS s)) = N s; rw [trOf_recv]
omit [FloatOps F] in
/-- A barrier expects three units. -/
theorem expect_reg (q : Sem sig) : (sched (F := F) m).expect ((c : Thread nD τ), .reg q) 0 = 3 := by
  unfold Schedule.expect Schedule.amountOf
  rw [duties_reg, Finset.sum_congr rfl fun d _ => amount_reg m c d q]; rfl
omit [FloatOps F] in
/-- A send cell expects the transfer's units. -/
theorem expect_send : (sched (F := F) m).expect (sendCell c s) 0 = N s := by
  unfold Schedule.expect Schedule.amountOf; rw [duties_dma, Finset.sum_singleton, amount_send]
omit [FloatOps F] in
/-- A receive cell expects the transfer's units. -/
theorem expect_recv : (sched (F := F) m).expect (recvCell c s) 0 = N s := by
  unfold Schedule.expect Schedule.amountOf; rw [duties_dma, Finset.sum_singleton, amount_recv]
omit [FloatOps F] in
/-- An entry signal hands over the partner's landing places. -/
theorem payload_bar : (sched (F := F) m).payload (barCell c) 0 d = barPay c d := by dsimp only [sched]; exact if_pos rfl
omit [FloatOps F] in
/-- An exit signal hands over nothing. -/
theorem payload_end : (sched (F := F) m).payload (endCell c) 0 d = iprop(emp) := by dsimp only [sched]; exact if_neg fun h => barS_ne h.symm
omit [FloatOps F] in
/-- A finished send gives back the share of the piece it read. -/
theorem payload_send : (sched (F := F) m).payload (sendCell c s) 0 d = piece m c (src s) (rr s) := by
  show (if (sendS s).val < 24 then piece m c (src (trOf (sendS s))) (rr (trOf (sendS s))) else _) = _
  rw [if_pos (send_lt s), trOf_send]
omit [FloatOps F] in
/-- A landing hands over the piece that landed. -/
theorem payload_recv : (sched (F := F) m).payload (recvCell c s) 0 d = full m c (dst s) := by
  show (if (recvS s).val < 24 then piece m c (src (trOf (recvS s))) (rr (trOf (recvS s))) else full m c (dst (trOf (recvS s)))) = _
  rw [if_neg (recv_nlt s), trOf_recv]
omit [FloatOps F] in
/-- A wait at the entry barrier takes what the three signals hand over. -/
theorem rest_bar : bigSep ((sched (F := F) m).duties (barCell c) 0 \ ∅) (fun d => (sched (F := F) m).payload (barCell c) 0 d)
    = bigSep Finset.univ fun s : Tr => land (F := F) (pr c (om s)) s := by
  rw [Finset.sdiff_empty, duties_reg, bigSep_congr fun d _ => payload_bar m c d]
  unfold barPay
  rw [bigSep_fiberwise (Finset.univ : Finset Tr) mi, show (Finset.univ : Finset Tr).image mi = Finset.univ by decide]
  refine bigSep_congr fun d _ => bigSep_congr fun s hs => ?_
  rw [Finset.mem_filter] at hs
  unfold om; rw [hs.2]
omit [FloatOps F] in
/-- A wait at a send cell takes back the share of the piece. -/
theorem rest_send : bigSep ((sched (F := F) m).duties (sendCell c s) 0 \ ∅) (fun d => (sched (F := F) m).payload (sendCell c s) 0 d)
    = piece m c (src s) (rr s) := by
  rw [Finset.sdiff_empty, duties_dma, bigSep_singleton, payload_send]
omit [FloatOps F] in
/-- A wait at a receive cell takes the piece that landed. -/
theorem rest_recv : bigSep ((sched (F := F) m).duties (recvCell c s) 0 \ ∅) (fun d => (sched (F := F) m).payload (recvCell c s) 0 d)
    = full m c (dst s) := by
  rw [Finset.sdiff_empty, duties_dma, bigSep_singleton, payload_recv]

end Sched

/-! ## What a device owes -/

/-- After `a` starts: the partners' credits of the transfers to come. -/
def Osend (a : ℕ) (c : Dev nD) : CellTallies nD τ sig Unit :=
  ∑ s ∈ Finset.univ.filter (fun s : Tr => a ≤ posS s), tallyAt (recvCell (pr c (om s)) s) () (N s)
/-- One unit to a partner's semaphore `q`. -/
def unitTo (q : Sem sig) (c : Dev nD) (d : Fin 3) : CellTallies nD τ sig Unit := tallyAt ((pr c (mk d) : Thread nD τ), .reg q) () 1
/-- The exit barrier's units. -/
def Oend (c : Dev nD) : CellTallies nD τ sig Unit := unitTo endS c 2 + unitTo endS c 1 + unitTo endS c 0
/-- What a device owes at the start. -/
def O₀ (c : Dev nD) : CellTallies nD τ sig Unit := Osend 0 c + Oend c + unitTo barS c 2 + unitTo barS c 1 + unitTo barS c 0

/-- The next start settles one credit. -/
theorem Osend_step {a : ℕ} {s : Tr} (hs : posS s = a) (c : Dev nD) :
    Osend a c = Osend (a + 1) c + tallyAt (recvCell (pr c (om s)) s) () (N s) := by
  unfold Osend
  have h : (Finset.univ.filter fun t : Tr => a ≤ posS t) = insert s (Finset.univ.filter fun t : Tr => a + 1 ≤ posS t) := by
    ext t
    simp only [Finset.mem_filter, Finset.mem_insert, Finset.mem_univ, true_and]
    constructor
    · intro h
      rcases Nat.lt_or_ge a (posS t) with h' | h'
      · exact Or.inr h'
      · exact Or.inl (posS_inj t s (by omega))
    · rintro (rfl | h) <;> omega
  rw [h, Finset.sum_insert (by simp only [Finset.mem_filter, not_and]; omega), add_comm]

/-- After the last start no credit is owed. -/
theorem Osend_last (c : Dev nD) : Osend 21 c = 0 := by
  unfold Osend
  rw [Finset.filter_false_of_mem (fun s _ => by have := posS_lt s; omega), Finset.sum_empty]

/-! ## Levels -/

/-- The cells of the TensorCores have a level. -/
def L (g : GSem nD τ sig) : Finset Unit := if g.1.2 = .tc then {()} else ∅
/-- Staging and send cells lowest, then the entry barrier, the receive cells by round, the exit barrier. -/
def lv (g : GSem nD τ sig) (_ : Unit) : ℕ := match g.2 with
  | .reg q => if q = barS then 1 else 6
  | .dma q => if q.val < 24 then 0 else 2 + (rr (trOf q)).val

/-- Other threads' cells have none. -/
theorem L_of_ne (g : GSem nD τ sig) (h : g.1.2 ≠ .tc) : L g = ∅ := if_neg h
/-- A TensorCore's cell has one. -/
theorem L_tc (c : Dev nD) (sm : SemLoc sig) : L ((c : Thread nD τ), sm) = {()} := if_pos rfl

/-- The entry barrier's level. -/
theorem lv_bar (c : Dev nD) : lv (barCell c) () = 1 := by dsimp only [lv]; exact if_pos rfl
/-- The exit barrier's level. -/
theorem lv_end (c : Dev nD) : lv (endCell c) () = 6 := by dsimp only [lv]; exact if_neg fun h => barS_ne h.symm
/-- A receive cell's level. -/
theorem lv_recv (c : Dev nD) (s : Tr) : lv (recvCell c s) () = 2 + (rr s).val := by
  show (if (recvS s).val < 24 then 0 else 2 + (rr (trOf (recvS s))).val) = _
  rw [if_neg (recv_nlt s), trOf_recv]
/-- A send cell's level. -/
theorem lv_send (c : Dev nD) (s : Tr) : lv (sendCell c s) () = 0 := by dsimp only [lv]; exact if_pos (send_lt s)

/-- Everything owed lies above level `n`. -/
def Above (n : ℕ) (O : CellTallies nD τ sig Unit) : Prop := ∀ g u, 0 < O g u → g.1.2 = .tc ∧ n < lv g u

/-- Owing nothing is above every level. -/
theorem Above.zero (n : ℕ) : Above n 0 := fun g u h => absurd h (Nat.lt_irrefl 0)
/-- Two debts above a level are above it together. -/
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
/-- A debt to one cell is above what is below that cell's level. -/
theorem Above.tally {n : ℕ} (c : Dev nD) (sm : SemLoc sig) (k : ℕ) (h : n < lv ((c : Thread nD τ), sm) ()) :
    Above n (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (Nat.lt_irrefl 0)
/-- Debts above a level are above it together. -/
theorem Above.sum {n : ℕ} (S : Finset Tr) (O : Tr → CellTallies nD τ sig Unit) (h : ∀ s ∈ S, Above n (O s)) : Above n (∑ s ∈ S, O s) :=
  Finset.sum_induction O (Above n) (fun _ _ => Above.add) (Above.zero n) h

/-- The transfers still owed are above the levels below their rounds. -/
theorem above_Osend {n a : ℕ} (c : Dev nD) (h : ∀ s : Tr, a ≤ posS s → n < 2 + (rr s).val) : Above n (Osend a c) :=
  Above.sum _ _ fun s hs => Above.tally _ _ _ (by rw [lv_recv]; exact h s (Finset.mem_filter.mp hs).2)
/-- The exit signals are above all lower levels. -/
theorem above_Oend {n : ℕ} (c : Dev nD) (h : n < 6) : Above n (Oend c) :=
  ((Above.tally _ _ _ (by rw [lv_end]; exact h)).add (Above.tally _ _ _ (by rw [lv_end]; exact h))).add (Above.tally _ _ _ (by rw [lv_end]; exact h))
/-- All that a device owes at first is above level zero. -/
theorem above_O₀ (c : Dev nD) : Above 0 (O₀ c) :=
  ((((above_Osend c fun s _ => by omega).add (above_Oend c (by decide))).add (Above.tally _ _ _ (by rw [lv_bar]; decide))).add
    (Above.tally _ _ _ (by rw [lv_bar]; decide))).add (Above.tally _ _ _ (by rw [lv_bar]; decide))

omit [FloatOps F] in
/-- A wait at or below level `n` is allowed while everything owed lies above. -/
theorem mayWait (c : Dev nD) (sm : SemLoc sig) {n : ℕ} (hl : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

end Cert.Gather

end
-- ==== Proof.Steps.lean ====
/-
What a device holds in the middle of the gather, and how one start, one awaited transfer and one drain change it.
-/
module

public import proofs.«01_k».proof.Proof.Protocol

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No loop variants are needed. -/
abbrev 𝒱₀ : Variants := Variants.none

/-! ## The cells, numbered -/

/-- The forty-four semaphores of the protocol: entry barrier, exit barrier, send cells, receive cells. -/
def csem (k : Fin 44) : SemLoc sig :=
  if k.val = 0 then .reg barS else if k.val = 1 then .reg endS else .dma ⟨k.val + 1, by have := k.isLt; show _ < 45; omega⟩
/-- A device's cell of a number. -/
abbrev kcell (ck : Dev nD × Fin 44) : GSem nD τ sig := ((ck.1 : Thread nD τ), csem ck.2)
/-- The number of a send cell. -/
def sIx (s : Tr) : Fin 44 := ⟨s.val + 2, by have := s.isLt; omega⟩
/-- The number of a receive cell. -/
def rIx (s : Tr) : Fin 44 := ⟨s.val + 23, by have := s.isLt; omega⟩

/-- Cell 0 is the entry barrier's. -/
theorem csem_bar : csem 0 = .reg barS := by decide
/-- Cell 1 is the exit barrier's. -/
theorem csem_end : csem 1 = .reg endS := by decide
/-- The send cells' semaphores. -/
theorem csem_send (s : Tr) : csem (sIx s) = .dma (sendS s) := by revert s; decide
/-- The receive cells' semaphores. -/
theorem csem_recv (s : Tr) : csem (rIx s) = .dma (recvS s) := by revert s; decide

/-- What every device knows throughout: the cells' invariants under the names `K`, that round 0 is open, the levels. -/
def ctx (K : Dev nD × Fin 44 → ℕ) : sProp 𝕄 :=
  iprop((bigSep Finset.univ fun ck => cellInv ER (sched m) (K ck) (kcell ck))
    ∗ (bigSep Finset.univ fun ck => reached ER (kcell ck) 0) ∗ levAts L lv)

omit [FloatOps F] in
/-- What all devices know may be used again and again. -/
instance ctx_persistent (K : Dev nD × Fin 44 → ℕ) : BI.Persistent (ctx m K) := by unfold ctx; infer_instance

section Ctx
variable (K : Dev nD × Fin 44 → ℕ)

omit [FloatOps F] in
/-- It holds every cell's invariant, -/
theorem ctx_inv (ck : Dev nD × Fin 44) {g : GSem nD τ sig} (h : kcell ck = g) : ctx m K ⊢ cellInv ER (sched m) (K ck) g := by
  subst h; unfold ctx; iintro ⟨H, -, -⟩
  iapply (show (bigSep Finset.univ fun ck => cellInv ER (sched m) (K ck) (kcell ck)) ⊢ cellInv ER (sched m) (K ck) (kcell ck)
    from bigSep_elim (Finset.mem_univ ck))
  iexact H
omit [FloatOps F] in
/-- that every cell is at its first round, -/
theorem ctx_reached (ck : Dev nD × Fin 44) {g : GSem nD τ sig} (h : kcell ck = g) : ctx m K ⊢ reached ER g 0 := by
  subst h; unfold ctx; iintro ⟨-, H, -⟩
  iapply (show (bigSep Finset.univ fun ck => (reached ER (kcell ck) 0 : sProp 𝕄)) ⊢ reached ER (kcell ck) 0
    from bigSep_elim (Finset.mem_univ ck))
  iexact H
omit [FloatOps F] in
/-- and the levels. -/
theorem ctx_lev : ctx m K ⊢ levAts L lv := by
  unfold ctx; iintro ⟨-, -, H⟩; iexact H

/-- Cell 0 of a device is its entry barrier. -/
theorem kcell_bar (c : Dev nD) : kcell (c, 0) = barCell c := by unfold kcell; rw [csem_bar]
/-- Cell 1 of a device is its exit barrier. -/
theorem kcell_end (c : Dev nD) : kcell (c, 1) = endCell c := by unfold kcell; rw [csem_end]
/-- The send cells by number. -/
theorem kcell_send (c : Dev nD) (s : Tr) : kcell (c, sIx s) = sendCell c s := by unfold kcell; rw [csem_send]
/-- The receive cells by number. -/
theorem kcell_recv (c : Dev nD) (s : Tr) : kcell (c, rIx s) = recvCell c s := by unfold kcell; rw [csem_recv]

end Ctx

/-! ## The state between two steps -/

/-- Transfer `s` at its sender: to be started, under way, or drained. -/
def sendSt (a d : ℕ) (c : Dev nD) (s : Tr) : sProp 𝕄 :=
  if a ≤ posS s then iprop(dutyTok ER (sendCell c s) 0 (0 : Fin 3) ∗ dutyTok ER (recvCell (pr c (om s)) s) 0 (0 : Fin 3)
      ∗ land (F := F) (pr c (om s)) s ∗ atPos ER (sendCell c s) 0 ∅ 0)
  else if d ≤ posS s then iprop(cred (tallyAt (sendCell c s) () (N s)) ∗ atPos ER (sendCell c s) 0 ∅ 0)
  else semVal (sendCell c s) 0
/-- Transfer `s` at its receiver: awaited or there. -/
def recvSt (b : ℕ) (c : Dev nD) (s : Tr) : sProp 𝕄 :=
  if b ≤ posR s then iprop(cred (tallyAt (recvCell c s) () (N s)) ∗ atPos ER (recvCell c s) 0 ∅ 0)
  else semVal (recvCell c s) 0
/-- A share of a place that is filled, unless lent. -/
def shareSt (a d : ℕ) (c : Dev nD) (p : Pc) (i : Fin 4) : sProp 𝕄 := if Lent a d p i then iprop(emp) else piece m c p i
/-- A place, if filled. -/
def placeSt (a b d : ℕ) (c : Dev nD) (p : Pc) : sProp 𝕄 :=
  if Got b p then bigSep Finset.univ fun i => shareSt m a d c p i else iprop(emp)
/-- Device `c` after `a` starts, `b` awaited transfers and `d` drains. -/
def St (c : Dev nD) (a b d : ℕ) : sProp 𝕄 :=
  iprop((∃ W, owes (c : Thread nD τ) (Osend a c + Oend c) W) ∗ (bigSep Finset.univ fun s => sendSt a d c s)
    ∗ (bigSep Finset.univ fun s => recvSt b c s) ∗ (bigSep Finset.univ fun p => placeSt m a b d c p))

section Turns
variable (c : Dev nD) {a b d : ℕ} {s : Tr}

omit [FloatOps F] in
/-- Starting `s` changes only the send state of `s`. -/
theorem sendSt_start (hs : posS s = a) (hd : d ≤ a) :
    (bigSep Finset.univ fun t => sendSt a d c t : sProp 𝕄) ⊢
      iprop((dutyTok ER (sendCell c s) 0 (0 : Fin 3) ∗ dutyTok ER (recvCell (pr c (om s)) s) 0 (0 : Fin 3)
          ∗ land (F := F) (pr c (om s)) s ∗ atPos ER (sendCell c s) 0 ∅ 0)
        ∗ ((cred (tallyAt (sendCell c s) () (N s)) ∗ atPos ER (sendCell c s) 0 ∅ 0) -∗ bigSep Finset.univ fun t => sendSt (a + 1) d c t)) := by
  have h := bigSep_univ_update (Φ := fun t => sendSt (F := F) a d c t) (Ψ := fun t => sendSt (F := F) (a + 1) d c t) s fun t ht => by
    have hne : posS t ≠ a := fun e => ht (posS_inj t s (e.trans hs.symm))
    dsimp only [sendSt]
    rcases Nat.lt_or_ge (posS t) a with h | h
    · rw [if_neg (by omega), if_neg (by omega : ¬ a ≤ posS t)]
    · rw [if_pos (by omega), if_pos h]
  have e1 : sendSt (F := F) a d c s = _ := if_pos (by omega)
  have e2 : sendSt (F := F) (a + 1) d c s = _ := (if_neg (by omega)).trans (if_pos (by omega))
  rw [e1, e2] at h
  exact h

omit [FloatOps F] in
/-- Draining `s` changes only the send state of `s`. -/
theorem sendSt_drain (hs : posS s = d) (hd : d < a) :
    (bigSep Finset.univ fun t => sendSt a d c t : sProp 𝕄) ⊢
      iprop((cred (tallyAt (sendCell c s) () (N s)) ∗ atPos ER (sendCell c s) 0 ∅ 0)
        ∗ (semVal (sendCell c s) 0 -∗ bigSep Finset.univ fun t => sendSt a (d + 1) c t)) := by
  have h := bigSep_univ_update (Φ := fun t => sendSt (F := F) a d c t) (Ψ := fun t => sendSt (F := F) a (d + 1) c t) s fun t ht => by
    have hne : posS t ≠ d := fun e => ht (posS_inj t s (e.trans hs.symm))
    dsimp only [sendSt]
    rcases Nat.lt_or_ge (posS t) a with h | h
    · rw [if_neg (by omega : ¬ a ≤ posS t), if_neg (by omega : ¬ a ≤ posS t)]
      rcases Nat.lt_or_ge (posS t) d with h' | h'
      · rw [if_neg (by omega), if_neg (by omega)]
      · rw [if_pos (by omega), if_pos (by omega)]
    · rw [if_pos h, if_pos h]
  have e1 : sendSt (F := F) a d c s = _ := (if_neg (by omega)).trans (if_pos (by omega))
  have e2 : sendSt (F := F) a (d + 1) c s = _ := (if_neg (by omega)).trans (if_neg (by omega))
  rw [e1, e2] at h
  exact h

omit [FloatOps F] in
/-- Awaiting `s` changes only the receive state of `s`. -/
theorem recvSt_step (hs : posR s = b) :
    (bigSep Finset.univ fun t => recvSt b c t : sProp 𝕄) ⊢
      iprop((cred (tallyAt (recvCell c s) () (N s)) ∗ atPos ER (recvCell c s) 0 ∅ 0)
        ∗ (semVal (recvCell c s) 0 -∗ bigSep Finset.univ fun t => recvSt (b + 1) c t)) := by
  have h := bigSep_univ_update (Φ := fun t => recvSt (F := F) b c t) (Ψ := fun t => recvSt (F := F) (b + 1) c t) s fun t ht => by
    have hne : posR t ≠ b := fun e => ht (posR_inj t s (e.trans hs.symm))
    dsimp only [recvSt]
    rcases Nat.lt_or_ge (posR t) b with h | h
    · rw [if_neg (by omega), if_neg (by omega)]
    · rw [if_pos (by omega), if_pos (by omega)]
  have e1 : recvSt (F := F) b c s = _ := if_pos (by omega)
  have e2 : recvSt (F := F) (b + 1) c s = _ := if_neg (by omega)
  rw [e1, e2] at h
  exact h

omit [FloatOps F] in
/-- Starting `s` takes one share of the place it reads. -/
theorem placeSt_start (hs : posS s = a) (hd : d ≤ a) (hg : Got b (src s)) :
    (bigSep Finset.univ fun p => placeSt m a b d c p) ⊢
      iprop(piece m c (src s) (rr s) ∗ bigSep Finset.univ fun p => placeSt m (a + 1) b d c p) := by
  have h := bigSep_univ_update (Φ := fun p => placeSt m a b d c p) (Ψ := fun p => placeSt m (a + 1) b d c p) (src s) fun p hp => by
    dsimp only [placeSt, shareSt]
    simp only [lent_start hs p _ (Or.inl hp)]
  have h' := bigSep_univ_update (Φ := fun i => shareSt m a d c (src s) i) (Ψ := fun i => shareSt m (a + 1) d c (src s) i) (rr s) fun i hi => by
    dsimp only [shareSt]
    simp only [lent_start hs (src s) i (Or.inr hi)]
  have e1 : placeSt m a b d c (src s) = _ := if_pos hg
  have e2 : placeSt m (a + 1) b d c (src s) = _ := if_pos hg
  have e3 : shareSt m a d c (src s) (rr s) = _ := if_neg (not_lent_start hs)
  have e4 : shareSt m (a + 1) d c (src s) (rr s) = _ := if_pos (lent_started hs hd)
  rw [e1, e2] at h
  rw [e3, e4] at h'
  refine h.trans ?_
  iintro ⟨Hp, Hk⟩
  ihave Hp := h' $$ Hp
  icases Hp with ⟨Hp, Hk'⟩
  isplitl [Hp]; · iexact Hp
  iapply Hk
  iapply Hk'
  iempintro

omit [FloatOps F] in
/-- Draining `s` gives back the share of the place it read. -/
theorem placeSt_drain (hs : posS s = d) (hd : d < a) (hg : Got b (src s)) :
    iprop(piece m c (src s) (rr s) ∗ bigSep Finset.univ fun p => placeSt m a b d c p) ⊢
      bigSep Finset.univ fun p => placeSt m a b (d + 1) c p := by
  have h := bigSep_univ_update (Φ := fun p => placeSt m a b d c p) (Ψ := fun p => placeSt m a b (d + 1) c p) (src s) fun p hp => by
    dsimp only [placeSt, shareSt]
    simp only [lent_drain (a := a) hs p _ (Or.inl hp)]
  have h' := bigSep_univ_update (Φ := fun i => shareSt m a d c (src s) i) (Ψ := fun i => shareSt m a (d + 1) c (src s) i) (rr s) fun i hi => by
    dsimp only [shareSt]
    simp only [lent_drain (a := a) hs (src s) i (Or.inr hi)]
  have e1 : placeSt m a b d c (src s) = _ := if_pos hg
  have e2 : placeSt m a b (d + 1) c (src s) = _ := if_pos hg
  have e3 : shareSt m a d c (src s) (rr s) = _ := if_pos (lent_drained hs hd)
  have e4 : shareSt m a (d + 1) c (src s) (rr s) = _ := if_neg (not_lent_drain hs)
  rw [e1, e2] at h
  rw [e3, e4] at h'
  iintro ⟨Hs, HP⟩
  ihave HP := h $$ HP
  icases HP with ⟨Hp, Hk⟩
  ihave Hp := h' $$ Hp
  icases Hp with ⟨-, Hk'⟩
  iapply Hk
  iapply Hk'
  iexact Hs

omit [FloatOps F] in
/-- Awaiting `s` fills the place where it lands. -/
theorem placeSt_recv (hs : posR s = b) (hl : ∀ i, ¬ Lent a d (dst s) i) :
    iprop(full m c (dst s) ∗ bigSep Finset.univ fun p => placeSt m a b d c p) ⊢
      bigSep Finset.univ fun p => placeSt m a (b + 1) d c p := by
  have h := bigSep_univ_update (Φ := fun p => placeSt m a b d c p) (Ψ := fun p => placeSt m a (b + 1) d c p) (dst s) fun p hp => by
    dsimp only [placeSt]
    simp only [got_recv hs p hp]
  have e1 : placeSt m a b d c (dst s) = _ := if_neg (not_got_recv hs)
  have e2 : placeSt m a (b + 1) d c (dst s) = _ := if_pos (got_recvd hs)
  have e3 : (bigSep Finset.univ fun i => shareSt m a d c (dst s) i) = full m c (dst s) :=
    (bigSep_congr fun i _ => if_neg (hl i)).trans (full_eq m c (dst s)).symm
  rw [e1, e2, e3] at h
  iintro ⟨Hs, HP⟩
  ihave HP := h $$ HP
  icases HP with ⟨-, Hk⟩
  iapply Hk
  iexact Hs

end Turns

/-! ## The slices -/

/-- The rows `off …` of the gathered matrix. -/
abbrev rows (off sz : Fin 2 → ℕ) (inb : ∀ a, off a + sz a ≤ S2048x2048.size a)
    (hr : ∀ a, (Rect.unit (s := S2048x2048) off sz inb).stride a = 1) : Memref sig .tc .vmem ⟨2, sz⟩ .bf16 :=
  cM.slice (Rect.unit (s := S2048x2048) off sz inb) hr

/-- A slice of one stripe's height at its place covers the stripe. -/
theorem rows_set {off sz : Fin 2 → ℕ} {inb hr} {j : Fin 3} {o : Dev nD} (hsz : sz = ![rl j, 2048]) (hoff : off = ![256 * o.val + ro j, 0]) :
    (rows off sz inb hr).view.set = slot j o := by
  subst hsz hoff
  show ((View.whole cc0_scratch0).slice (Rect.unit (s := S2048x2048) _ _ inb)).set = slot j o
  rw [View.set_slice_whole]
  ext i
  rw [Rect.mem_set_unit]
  refine Iff.trans (Fin.forall_fin_two (p := fun a => ![256 * o.val + ro j, 0] a ≤ (i a).val ∧ (i a).val < ![256 * o.val + ro j, 0] a + ![rl j, 2048] a)) ?_
  rw [mem_slot]
  have h1 : (i 1).val < 2048 := (i 1).isLt
  constructor
  · rintro ⟨h, -⟩; exact h
  · intro h; exact ⟨h, Nat.zero_le _, by show (i 1).val < 0 + 2048; omega⟩

omit [FloatOps F] in
/-- A stripe held is its slice held. -/
theorem cPts_rows {off sz : Fin 2 → ℕ} {inb hr} {j : Fin 3} {o : Dev nD} (hsz : sz = ![rl j, 2048]) (hoff : off = ![256 * o.val + ro j, 0])
    (c : Dev nD) (q : PosShare TreeShare) (f : S2048x2048.Idx → Elt F .bf16) :
    cPts c (slot j o) q f = ((rows off sz inb hr).view.loc (c : Thread nD τ) ↦[(rows off sz inb hr).view.set]{q} f : sProp 𝕄) := by
  rw [rows_set hsz hoff]; rfl

omit [FloatOps F] in
/-- A stripe rewritten with what the same rows hold elsewhere holds just that. -/
theorem cPts_write {off sz : Fin 2 → ℕ} {inb hr} {j : Fin 3} {o : Dev nD} (hsz : sz = ![rl j, 2048]) (hoff : off = ![256 * o.val + ro j, 0])
    (c : Dev nD) (q : PosShare TreeShare) (f g : S2048x2048.Idx → Elt F .bf16) :
    ((rows off sz inb hr).view.loc (c : Thread nD τ) ↦[(rows off sz inb hr).view.set]{q}
        ((rows off sz inb hr).view.write (Elt F) f ((rows off sz inb hr).view.read (Elt F) g) Finset.univ) : sProp 𝕄) = cPts c (slot j o) q g := by
  rw [View.write_read_eq_piecewise, cPts_rows (inb := inb) (hr := hr) hsz hoff]
  exact pointsTo_congr fun i hi => Finset.piecewise_eq_of_mem _ _ _ hi

/-- The credit of a slice of a transfer's height is the transfer's. -/
theorem rows_credit {off sz : Fin 2 → ℕ} {inb hr} {s : Tr} (hsz : sz = ![rl (jj s), 2048]) : (rows off sz inb hr).view.dmaCredit = N s := by
  subst hsz; rfl

/-! ## The steps -/

section Step
variable (K : Dev nD × Fin 44 → ℕ) (c : Dev nD) {a b d : ℕ} (s : Tr)

/-- Starting transfer `s`. -/
theorem step_send (hs : posS s = a) (hd : d ≤ a) (hg : Got b (src s))
    {off sz : Fin 2 → ℕ} (hsz : sz = ![rl (jj s), 2048]) (hoff : off = ![256 * (pr c (gm s)).val + ro (jj s), 0])
    {inb inb' hr hr'} {n : Dev nD} (hn : n.val = (pr c (om s)).val) {qS qR : DmaSem sig} (hqS : qS = sendS s) (hqR : qR = recvS s)
    {hsc : (rows off sz inb' hr' : Memref sig (Dev.tc n : Thread nD τ).2.kind .vmem ⟨2, sz⟩ .bf16).view.ref.isScScratch = false}
    {hsrc : (rows off sz inb hr).view.WordExact} {hdst : (rows off sz inb' hr').view.WordExact}
    {hsem : DmaTarget.Typed .vmem (.dma qR) (.remote (Dev.tc n : Thread nD τ) (rows off sz inb' hr') (.dma qS) hsc)}
    {α : Type} {Q : α → sProp 𝕄} {k : PUnit → Prog (TpuEff nD τ sig (Elt F) Λ₀ .tc) α} :
    iprop(ctx m K ∗ St m c a b d)
      ⊢ iprop((St m c (a + 1) b d -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rows off sz inb hr) (.remote (Dev.tc n : Thread nD τ) (rows off sz inb' hr') (.dma qS) hsc) (.dma qR) hsrc hdst hsem) k) Q) := by
  have hn' : n = pr c (om s) := Fin.ext hn
  subst hn' hqS hqR
  have hoff' : off = ![256 * (pr (pr c (om s)) (dst s).2).val + ro (dst s).1, 0] := by
    show off = ![256 * (pr (pr c (om s)) (mu s)).val + ro (jj s), 0]
    rw [pr_mu]; exact hoff
  unfold St
  iintro ⟨#Hc, ⟨%W, Ho⟩, HS, HR, HP⟩ Hk
  ihave HS := (sendSt_start c hs hd) $$ HS
  unfold land
  icases HS with ⟨⟨HtS, HtR, ⟨%f, Hl⟩, Hat⟩, HSk⟩
  ihave HP := (placeSt_start m c hs hd hg) $$ HP
  icases HP with ⟨Hsrc, HP⟩
  ihave Hsrc := (Entails.of_eq (show piece m c (src s) (rr s) = _ from cPts_rows (inb := inb) (hr := hr) hsz hoff c (shr (rr s)) (gath m))) $$ Hsrc
  ihave Hl := (Entails.of_eq (cPts_rows (j := (dst s).1) (inb := inb') (hr := hr') hsz hoff' (pr c (om s)) fullShare f)) $$ Hl
  iapply (Rounds.wp_send_pointsTo 𝒱₀ ER (sched m) (c : Thread nD τ) none (κ₁ := K (c, sIx s)) (κ₂ := K (pr c (om s), rIx s))
    (r₁ := 0) (r₂ := 0) (d₁ := (0 : Fin 3)) (d₂ := (0 : Fin 3)) (fd := f) (fs := gath m) (q := shr (rr s)) (O₀ := Osend a c + Oend c)
    (by rw [duties_dma]; exact Finset.mem_singleton_self _) (by rw [duties_dma]; exact Finset.mem_singleton_self _)
    () () (N s) (by exact rows_credit hsz) (amount_send m c s 0) (amount_recv m (pr c (om s)) s 0) (Osend (a + 1) c + Oend c)
    (by rw [Osend_step hs]; exact add_right_comm _ _ _) (W := W)
    (by rw [payload_send]; exact Entails.of_eq (cPts_rows (inb := inb) (hr := hr) hsz hoff c (shr (rr s)) (gath m)).symm)
    (by rw [payload_recv]; exact Entails.of_eq (cPts_write (inb := inb') (hr := hr') hsz hoff' (pr c (om s)) fullShare f (gath m))))
    $$ [Ho HtS HtR Hsrc Hl]
  · isplitr; · iapply (ctx_inv m K (c, sIx s) (kcell_send c s)); iexact Hc
    isplitr; · iapply (ctx_inv m K (pr c (om s), rIx s) (kcell_recv _ s)); iexact Hc
    isplitl [Hsrc]; · iexact Hsrc
    isplitl [Hl]; · iexact Hl
    isplitl [Ho]; · iexact Ho
    isplitl [HtS]; · iexact HtS
    isplitr; · iapply (ctx_reached m K (c, sIx s) (kcell_send c s)); iexact Hc
    isplitl [HtR]; · iexact HtR
    iapply (ctx_reached m K (pr c (om s), rIx s) (kcell_recv _ s)); iexact Hc
  iintro ⟨Hcr, Ho⟩
  iapply Hk
  isplitl [Ho]; · iexists W; iexact Ho
  isplitl [HSk Hcr Hat]
  · iapply HSk; isplitl [Hcr] <;> iassumption
  isplitl [HR] <;> iassumption

/-- Awaiting transfer `s`. -/
theorem step_recv (hs : posR s = b) (hl : ∀ i, ¬ Lent a d (dst s) i) (hlev : ∀ t : Tr, a ≤ posS t → rr s < rr t)
    {off sz off' sz' : Fin 2 → ℕ} (hsz : sz' = ![rl (jj s), 2048]) {inb inb' hr hr'} {qR : DmaSem sig} (hqR : qR = recvS s)
    {hsrc : (rows off sz inb hr).view.WordExact} {hdst : (rows off' sz' inb' hr').view.WordExact}
    {α : Type} {Q : α → sProp 𝕄} {k : PUnit → Prog (TpuEff nD τ sig (Elt F) Λ₀ .tc) α} :
    iprop(ctx m K ∗ St m c a b d)
      ⊢ iprop((St m c a (b + 1) d -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qR (rows off sz inb hr) (rows off' sz' inb' hr') hsrc hdst) k) Q) := by
  subst hqR
  have hab : Above (2 + (rr s).val) (Osend a c + Oend c) :=
    (above_Osend c fun t ht => by have := hlev t ht; omega).add (above_Oend c (by have := (rr s).isLt; omega))
  have hN : 0 + (rows off' sz' inb' hr').view.dmaCredit = (sched (F := F) m).expect (recvCell c s) 0 :=
    (Nat.zero_add _).trans ((rows_credit hsz).trans (expect_recv m c s).symm)
  unfold St
  iintro ⟨#Hc, ⟨%W, Ho⟩, HS, HR, HP⟩ Hk
  ihave HR := (recvSt_step c hs) $$ HR
  icases HR with ⟨⟨Hcr, Hat⟩, HRk⟩
  iapply (Rounds.wp_wait_rest_token 𝒱₀ ER (sched m) (c : Thread nD τ) none (κ := K (c, rIx s))
      (wpE_waitDma2_eq 𝒱₀ (c : Thread nD τ) none Set.univ) (Set.mem_univ _) () (O := Osend a c + Oend c) (W := W) (R := 0) (m := 0) (T := ∅)
      hN) $$ [Hcr Ho Hat]
  · isplitr; · iapply (ctx_inv m K (c, rIx s) (kcell_recv c s)); iexact Hc
    isplitl [Hcr]; · rw [rows_credit hsz]; iexact Hcr
    isplitl [Ho]; · iexact Ho
    isplitr
    · iapply (mayWait c (.dma (recvS s)) (n := 2 + (rr s).val) (le_of_eq (lv_recv c s)) hab)
      iapply (ctx_lev m K); iexact Hc
    iexact Hat
  iintro ⟨Ho, Hat, -, Hpay⟩
  ihave Hpay := (Entails.of_eq (rest_recv m c s)) $$ Hpay
  imod (Rounds.cell_close ER (sched m) (Set.mem_univ (K (c, rIx s))) (fun h => h) (R := 0 + 1) (duties_later m (recvCell c s))) $$ [Hat] with Hz
  · isplitr; · iapply (ctx_inv m K (c, rIx s) (kcell_recv c s)); iexact Hc
    iexact Hat
  iapply Hk
  isplitl [Ho]; · iexists _; iexact Ho
  isplitl [HS]; · iexact HS
  isplitl [HRk Hz]; · iapply HRk; iexact Hz
  iapply (placeSt_recv m c hs hl); isplitl [Hpay] <;> iassumption

/-- Draining transfer `s`, after the last start. -/
theorem step_drain (hs : posS s = d) (hd : d < a) (hg : Got b (src s))
    {off sz off' sz' : Fin 2 → ℕ} (hsz : sz' = ![rl (jj s), 2048]) {inb inb' hr hr'} {qS : DmaSem sig} (hqS : qS = sendS s)
    {hsrc : (rows off sz inb hr).view.WordExact} {hdst : (rows off' sz' inb' hr').view.WordExact}
    {α : Type} {Q : α → sProp 𝕄} {k : PUnit → Prog (TpuEff nD τ sig (Elt F) Λ₀ .tc) α} :
    iprop(ctx m K ∗ St m c a b d)
      ⊢ iprop((St m c a b (d + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 qS (rows off sz inb hr) (rows off' sz' inb' hr') hsrc hdst) k) Q) := by
  subst hqS
  unfold St
  iintro ⟨#Hc, ⟨%W, Ho⟩, HS, HR, HP⟩ Hk
  ihave HS := (sendSt_drain c hs hd) $$ HS
  icases HS with ⟨⟨Hcr, Hat⟩, HSk⟩
  iapply (Rounds.wp_wait_rest_token 𝒱₀ ER (sched m) (c : Thread nD τ) none (κ := K (c, sIx s))
      (wpE_waitDma2_eq 𝒱₀ (c : Thread nD τ) none Set.univ) (Set.mem_univ _) () (O := Osend a c + Oend c) (W := W) (R := 0) (m := 0) (T := ∅)
      ((Nat.zero_add _).trans ((rows_credit hsz).trans (expect_send m c s).symm))) $$ [Hcr Ho Hat]
  · isplitr; · iapply (ctx_inv m K (c, sIx s) (kcell_send c s)); iexact Hc
    isplitl [Hcr]; · rw [rows_credit hsz]; iexact Hcr
    isplitl [Ho]; · iexact Ho
    isplitr
    · iapply (mayWait c (.dma (sendS s)) (n := 0) (le_of_eq (lv_send c s))
        ((above_Osend c fun t ht => by omega).add (above_Oend c (by decide))))
      iapply (ctx_lev m K); iexact Hc
    iexact Hat
  iintro ⟨Ho, Hat, -, Hpay⟩
  ihave Hpay := (Entails.of_eq (rest_send m c s)) $$ Hpay
  imod (Rounds.cell_close ER (sched m) (Set.mem_univ (K (c, sIx s))) (fun h => h) (R := 0 + 1) (duties_later m (sendCell c s))) $$ [Hat] with Hz
  · isplitr; · iapply (ctx_inv m K (c, sIx s) (kcell_send c s)); iexact Hc
    iexact Hat
  iapply Hk
  isplitl [Ho]; · iexists _; iexact Ho
  isplitl [HSk Hz]; · iapply HSk; iexact Hz
  isplitl [HR]; · iexact HR
  iapply (placeSt_drain m c hs hd hg); isplitl [Hpay] <;> iassumption

end Step

end Cert.Gather

end
-- ==== Proof.Parts.lean ====
/-
The parts of the body that only start, await and drain transfers: each takes the state between two steps to a later one.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- One step, then the rest of the program, with resources the step does not touch. -/
theorem chain {C A B R P P' : sProp 𝕄} [BI.Persistent C] (h : iprop(C ∗ A) ⊢ iprop((B -∗ P) -∗ P')) (h' : iprop(C ∗ B ∗ R) ⊢ P) :
    iprop(C ∗ A ∗ R) ⊢ P' := by
  iintro ⟨#Hc, Ha, Hr⟩
  iapply h $$ [Ha]
  · isplitr; · iexact Hc
    iexact Ha
  iintro Hb
  iapply h'
  isplitr; · iexact Hc
  isplitl [Hb] <;> iassumption

/-- The weakest precondition of a program of the body on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A program fragment of the body, as a function of the body's buffers and semaphores. -/
abbrev OfBufs (β : Type 1) : Type 1 :=
  (a0 : Memref sig .tc .vmem S256x2048 .bf16) → a0.IsWhole → (a1 : Memref sig .tc .vmem S2048x256 .bf16) → a1.IsWhole →
  (a2 : Memref sig .tc .vmem S2048x256 .f32) → a2.IsWhole → (a3 : Memref sig .tc .vmem S2048x2048 .bf16) → a3.IsWhole →
  (a4 : Memref sig .tc .vmem S2048x256 .bf16) → a4.IsWhole → DmaSems sig S21 → DmaSems sig S21 → Sems sig S_ → β
/-- The staged left block, the staged right block, the staged result, the right operand in the kernel's memory. -/
abbrev xM : Memref sig .tc .vmem S256x2048 .bf16 := Memref.whole cc0_stg0_0
/-- The staged block of `w`. -/
abbrev wM : Memref sig .tc .vmem S2048x256 .bf16 := Memref.whole cc0_stg1_0
/-- The staged result. -/
abbrev oM : Memref sig .tc .vmem S2048x256 .f32 := Memref.whole cc0_stg2_0
/-- The kernel's own copy of the block of `w`. -/
abbrev bM : Memref sig .tc .vmem S2048x256 .bf16 := Memref.whole cc0_scratch1
/-- A fragment at the launch's buffers. -/
abbrev run {β : Type 1} (f : OfBufs β) : β :=
  f xM (Memref.isWhole_whole _) wM (Memref.isWhole_whole _) oM (Memref.isWhole_whole _) cM (Memref.isWhole_whole _) bM
    (Memref.isWhole_whole _) cc0_scratch2 cc0_scratch3 cc0_scoped0

variable (K : Dev nD × Fin 44 → ℕ) (c : Dev nD)

/-- The second part starts 0, starts 1, starts 3. -/
theorem part2 (v2 : BitVec 32) {R : sProp 𝕄} {Q : _ → sProp 𝕄} (h : ∀ r, iprop(ctx m K ∗ St m c 3 0 0 ∗ R) ⊢ Q r) :
    iprop(ctx m K ∗ St m c 0 0 0 ∗ R) ⊢ wpc c (run (k0_part2 (F := F)) c v2) Q := by
  unfold run; rw [k0_part2_eq_skeleton]; unfold k0_part2_skel
  simp only [Prog.lift, Prog.bind_op, Prog.bind_ret, Prog.pure_eq_ret]
  refine chain (step_send m K c 0 rfl (by decide) (by decide) rfl (off2_0 c) (dev4_eq c) rfl rfl) ?_
  refine chain (step_send m K c 1 rfl (by decide) (by decide) rfl (off2_0 c) (dev5_eq c) rfl rfl) ?_
  refine chain (step_send m K c 3 rfl (by decide) (by decide) rfl (off2_0 c) (dev6_eq c) rfl rfl) ?_
  rw [wp_ret]; exact (h _).trans fupd_intro

/-- The third part starts 7, starts 8. -/
theorem part3 (v2 v56 v57 v58 : BitVec 32) {R : sProp 𝕄} {Q : _ → sProp 𝕄} (h : ∀ r, iprop(ctx m K ∗ St m c 5 0 0 ∗ R) ⊢ Q r) :
    iprop(ctx m K ∗ St m c 3 0 0 ∗ R) ⊢ wpc c (run (k0_part3 (F := F)) c v2 v56 v57 v58) Q := by
  unfold run; rw [k0_part3_eq_skeleton]; unfold k0_part3_skel
  simp only [Prog.lift, Prog.bind_op, Prog.bind_ret, Prog.pure_eq_ret]
  refine chain (step_send m K c 7 rfl (by decide) (by decide) rfl (off3_0 c) (dev7_eq c) rfl rfl) ?_
  refine chain (step_send m K c 8 rfl (by decide) (by decide) rfl (off3_0 c) (dev8_eq c) rfl rfl) ?_
  rw [wp_ret]; exact (h _).trans fupd_intro

/-- The fourth part starts 10, starts 14, starts 15. -/
theorem part4 (v2 : BitVec 32) {R : sProp 𝕄} {Q : _ → sProp 𝕄} (h : ∀ r, iprop(ctx m K ∗ St m c 8 0 0 ∗ R) ⊢ Q r) :
    iprop(ctx m K ∗ St m c 5 0 0 ∗ R) ⊢ wpc c (run (k0_part4 (F := F)) c v2) Q := by
  unfold run; rw [k0_part4_eq_skeleton]; unfold k0_part4_skel
  simp only [Prog.lift, Prog.bind_op, Prog.bind_ret, Prog.pure_eq_ret]
  refine chain (step_send m K c 10 rfl (by decide) (by decide) rfl (off3_0 c) (dev9_eq c) rfl rfl) ?_
  refine chain (step_send m K c 14 rfl (by decide) (by decide) rfl (off3_0' c) (dev10_eq c) rfl rfl) ?_
  refine chain (step_send m K c 15 rfl (by decide) (by decide) rfl (off3_0' c) (dev11_eq c) rfl rfl) ?_
  rw [wp_ret]; exact (h _).trans fupd_intro

/-- The sixth part starts 2, starts 4, awaits 7. -/
theorem part6 (v2 : BitVec 32) {R : sProp 𝕄} {Q : _ → sProp 𝕄} (h : ∀ r, iprop(ctx m K ∗ St m c 11 2 0 ∗ R) ⊢ Q r) :
    iprop(ctx m K ∗ St m c 9 1 0 ∗ R) ⊢ wpc c (run (k0_part6 (F := F)) c v2) Q := by
  unfold run; rw [k0_part6_eq_skeleton]; unfold k0_part6_skel
  simp only [Prog.lift, Prog.bind_op, Prog.bind_ret, Prog.pure_eq_ret]
  refine chain (step_send m K c 2 rfl (by decide) (by decide) rfl (off2_1 c) (dev13_eq c) rfl rfl) ?_
  refine chain (step_send m K c 4 rfl (by decide) (by decide) rfl (off2_1 c) (dev14_eq c) rfl rfl) ?_
  refine chain (step_recv m K c 7 rfl (by decide) (by decide) rfl rfl) ?_
  rw [wp_ret]; exact (h _).trans fupd_intro

/-- The seventh part starts 9, starts 11, awaits 14. -/
theorem part7 (v2 v178 : BitVec 32) {R : sProp 𝕄} {Q : _ → sProp 𝕄} (h : ∀ r, iprop(ctx m K ∗ St m c 13 3 0 ∗ R) ⊢ Q r) :
    iprop(ctx m K ∗ St m c 11 2 0 ∗ R) ⊢ wpc c (run (k0_part7 (F := F)) c v2 v178) Q := by
  unfold run; rw [k0_part7_eq_skeleton]; unfold k0_part7_skel
  simp only [Prog.lift, Prog.bind_op, Prog.bind_ret, Prog.pure_eq_ret]
  refine chain (step_send m K c 9 rfl (by decide) (by decide) rfl (off3_3 c) (dev15_eq c) rfl rfl) ?_
  refine chain (step_send m K c 11 rfl (by decide) (by decide) rfl (off3_3 c) (dev16_eq c) rfl rfl) ?_
  refine chain (step_recv m K c 14 rfl (by decide) (by decide) rfl rfl) ?_
  rw [wp_ret]; exact (h _).trans fupd_intro

/-- The eighth part starts 16, starts 18. -/
theorem part8 (v2 v211 : BitVec 32) {R : sProp 𝕄} {Q : _ → sProp 𝕄} (h : ∀ r, iprop(ctx m K ∗ St m c 15 3 0 ∗ R) ⊢ Q r) :
    iprop(ctx m K ∗ St m c 13 3 0 ∗ R) ⊢ wpc c (run (k0_part8 (F := F)) c v2 v211) Q := by
  unfold run; rw [k0_part8_eq_skeleton]; unfold k0_part8_skel
  simp only [Prog.lift, Prog.bind_op, Prog.bind_ret, Prog.pure_eq_ret]
  refine chain (step_send m K c 16 rfl (by decide) (by decide) rfl (off3_4' c) (dev17_eq c) rfl rfl) ?_
  refine chain (step_send m K c 18 rfl (by decide) (by decide) rfl (off3_4' c) (dev18_eq c) rfl rfl) ?_
  rw [wp_ret]; exact (h _).trans fupd_intro

/-- The ninth part awaits 1, starts 5, awaits 2. -/
theorem part9 (v2 v235 : BitVec 32) {R : sProp 𝕄} {Q : _ → sProp 𝕄} (h : ∀ r, iprop(ctx m K ∗ St m c 16 5 0 ∗ R) ⊢ Q r) :
    iprop(ctx m K ∗ St m c 15 3 0 ∗ R) ⊢ wpc c (run (k0_part9 (F := F)) c v2 v235) Q := by
  unfold run; rw [k0_part9_eq_skeleton]; unfold k0_part9_skel
  simp only [Prog.lift, Prog.bind_op, Prog.bind_ret, Prog.pure_eq_ret]
  refine chain (step_recv m K c 1 rfl (by decide) (by decide) rfl rfl) ?_
  refine chain (step_send m K c 5 rfl (by decide) (by decide) rfl (off2_3 c) (dev19_eq c) rfl rfl) ?_
  refine chain (step_recv m K c 2 rfl (by decide) (by decide) rfl rfl) ?_
  rw [wp_ret]; exact (h _).trans fupd_intro

/-- The tenth part starts 6, awaits 8, starts 12. -/
theorem part10 (v2 v270 v271 : BitVec 32) {R : sProp 𝕄} {Q : _ → sProp 𝕄} (h : ∀ r, iprop(ctx m K ∗ St m c 18 6 0 ∗ R) ⊢ Q r) :
    iprop(ctx m K ∗ St m c 16 5 0 ∗ R) ⊢ wpc c (run (k0_part10 (F := F)) c v2 v270 v271) Q := by
  unfold run; rw [k0_part10_eq_skeleton]; unfold k0_part10_skel
  simp only [Prog.lift, Prog.bind_op, Prog.bind_ret, Prog.pure_eq_ret]
  refine chain (step_send m K c 6 rfl (by decide) (by decide) rfl (off2_2 c) (dev20_eq c) rfl rfl) ?_
  refine chain (step_recv m K c 8 rfl (by decide) (by decide) rfl rfl) ?_
  refine chain (step_send m K c 12 rfl (by decide) (by decide) rfl (off3_4 c) (dev21_eq c) rfl rfl) ?_
  rw [wp_ret]; exact (h _).trans fupd_intro

/-- The eleventh part awaits 9, starts 13, awaits 15. -/
theorem part11 (v2 v278 : BitVec 32) {R : sProp 𝕄} {Q : _ → sProp 𝕄} (h : ∀ r, iprop(ctx m K ∗ St m c 19 8 0 ∗ R) ⊢ Q r) :
    iprop(ctx m K ∗ St m c 18 6 0 ∗ R) ⊢ wpc c (run (k0_part11 (F := F)) c v2 v278) Q := by
  unfold run; rw [k0_part11_eq_skeleton]; unfold k0_part11_skel
  simp only [Prog.lift, Prog.bind_op, Prog.bind_ret, Prog.pure_eq_ret]
  refine chain (step_recv m K c 9 rfl (by decide) (by decide) rfl rfl) ?_
  refine chain (step_send m K c 13 rfl (by decide) (by decide) rfl (off3_7 c) (dev22_eq c) rfl rfl) ?_
  refine chain (step_recv m K c 15 rfl (by decide) (by decide) rfl rfl) ?_
  rw [wp_ret]; exact (h _).trans fupd_intro

/-- The twelfth part starts 19, awaits 16. -/
theorem part12 (v2 v321 v331 v332 : BitVec 32) {R : sProp 𝕄} {Q : _ → sProp 𝕄} (h : ∀ r, iprop(ctx m K ∗ St m c 20 9 0 ∗ R) ⊢ Q r) :
    iprop(ctx m K ∗ St m c 19 8 0 ∗ R) ⊢ wpc c (run (k0_part12 (F := F)) c v2 v321 v331 v332) Q := by
  unfold run; rw [k0_part12_eq_skeleton]; unfold k0_part12_skel
  simp only [Prog.lift, Prog.bind_op, Prog.bind_ret, Prog.pure_eq_ret]
  refine chain (step_send m K c 19 rfl (by decide) (by decide) rfl (off3_1' c) (dev23_eq c) rfl rfl) ?_
  refine chain (step_recv m K c 16 rfl (by decide) (by decide) rfl rfl) ?_
  rw [wp_ret]; exact (h _).trans fupd_intro

/-- The thirteenth part starts 20, awaits 3, awaits 4. -/
theorem part13 (v2 : BitVec 32) {R : sProp 𝕄} {Q : _ → sProp 𝕄} (h : ∀ r, iprop(ctx m K ∗ St m c 21 11 0 ∗ R) ⊢ Q r) :
    iprop(ctx m K ∗ St m c 20 9 0 ∗ R) ⊢ wpc c (run (k0_part13 (F := F)) c v2) Q := by
  unfold run; rw [k0_part13_eq_skeleton]; unfold k0_part13_skel
  simp only [Prog.lift, Prog.bind_op, Prog.bind_ret, Prog.pure_eq_ret]
  refine chain (step_send m K c 20 rfl (by decide) (by decide) rfl (off3_5' c) (dev24_eq c) rfl rfl) ?_
  refine chain (step_recv m K c 3 rfl (by decide) (by decide) rfl rfl) ?_
  refine chain (step_recv m K c 4 rfl (by decide) (by decide) rfl rfl) ?_
  rw [wp_ret]; exact (h _).trans fupd_intro

/-- The fourteenth part awaits 5, awaits 6, awaits 10, awaits 11. -/
theorem part14 (v2 v364 : BitVec 32) {R : sProp 𝕄} {Q : _ → sProp 𝕄} (h : ∀ r, iprop(ctx m K ∗ St m c 21 15 0 ∗ R) ⊢ Q r) :
    iprop(ctx m K ∗ St m c 21 11 0 ∗ R) ⊢ wpc c (run (k0_part14 (F := F)) c v2 v364) Q := by
  unfold run; rw [k0_part14_eq_skeleton]; unfold k0_part14_skel
  simp only [Prog.lift, Prog.bind_op, Prog.bind_ret, Prog.pure_eq_ret]
  refine chain (step_recv m K c 5 rfl (by decide) (by decide) rfl rfl) ?_
  refine chain (step_recv m K c 6 rfl (by decide) (by decide) rfl rfl) ?_
  refine chain (step_recv m K c 10 rfl (by decide) (by decide) rfl rfl) ?_
  refine chain (step_recv m K c 11 rfl (by decide) (by decide) rfl rfl) ?_
  rw [wp_ret]; exact (h _).trans fupd_intro

/-- The fifteenth part awaits 12, awaits 13, awaits 17. -/
theorem part15 (v2 v401 : BitVec 32) {R : sProp 𝕄} {Q : _ → sProp 𝕄} (h : ∀ r, iprop(ctx m K ∗ St m c 21 18 0 ∗ R) ⊢ Q r) :
    iprop(ctx m K ∗ St m c 21 15 0 ∗ R) ⊢ wpc c (run (k0_part15 (F := F)) c v2 v401) Q := by
  unfold run; rw [k0_part15_eq_skeleton]; unfold k0_part15_skel
  simp only [Prog.lift, Prog.bind_op, Prog.bind_ret, Prog.pure_eq_ret]
  refine chain (step_recv m K c 12 rfl (by decide) (by decide) rfl rfl) ?_
  refine chain (step_recv m K c 13 rfl (by decide) (by decide) rfl rfl) ?_
  refine chain (step_recv m K c 17 rfl (by decide) (by decide) rfl rfl) ?_
  rw [wp_ret]; exact (h _).trans fupd_intro

/-- The sixteenth part awaits 18, awaits 19, awaits 20. -/
theorem part16 (v438 v439 : BitVec 32) {R : sProp 𝕄} {Q : _ → sProp 𝕄} (h : ∀ r, iprop(ctx m K ∗ St m c 21 21 0 ∗ R) ⊢ Q r) :
    iprop(ctx m K ∗ St m c 21 18 0 ∗ R) ⊢ wpc c (run (k0_part16 (F := F)) c v438 v439) Q := by
  unfold run; rw [k0_part16_eq_skeleton]; unfold k0_part16_skel
  simp only [Prog.lift, Prog.bind_op, Prog.bind_ret, Prog.pure_eq_ret]
  refine chain (step_recv m K c 18 rfl (by decide) (by decide) rfl rfl) ?_
  refine chain (step_recv m K c 19 rfl (by decide) (by decide) rfl rfl) ?_
  refine chain (step_recv m K c 20 rfl (by decide) (by decide) rfl rfl) ?_
  rw [wp_ret]; exact (h _).trans fupd_intro

/-- The seventeenth part drains 0, drains 1, drains 3, drains 7, drains 8, drains 10. -/
theorem part17 {R : sProp 𝕄} {Q : _ → sProp 𝕄} (h : ∀ r, iprop(ctx m K ∗ St m c 21 21 6 ∗ R) ⊢ Q r) :
    iprop(ctx m K ∗ St m c 21 21 0 ∗ R) ⊢ wpc c (run (k0_part17 (F := F)) c) Q := by
  unfold run; rw [k0_part17_eq_skeleton]; unfold k0_part17_skel
  simp only [Prog.lift, Prog.bind_op, Prog.bind_ret, Prog.pure_eq_ret]
  refine chain (step_drain m K c 0 rfl (by decide) (by decide) rfl rfl) ?_
  refine chain (step_drain m K c 1 rfl (by decide) (by decide) rfl rfl) ?_
  refine chain (step_drain m K c 3 rfl (by decide) (by decide) rfl rfl) ?_
  refine chain (step_drain m K c 7 rfl (by decide) (by decide) rfl rfl) ?_
  refine chain (step_drain m K c 8 rfl (by decide) (by decide) rfl rfl) ?_
  refine chain (step_drain m K c 10 rfl (by decide) (by decide) rfl rfl) ?_
  rw [wp_ret]; exact (h _).trans fupd_intro

/-- The eighteenth part drains 14, drains 15, drains 17, drains 2, drains 4, drains 9. -/
theorem part18 {R : sProp 𝕄} {Q : _ → sProp 𝕄} (h : ∀ r, iprop(ctx m K ∗ St m c 21 21 12 ∗ R) ⊢ Q r) :
    iprop(ctx m K ∗ St m c 21 21 6 ∗ R) ⊢ wpc c (run (k0_part18 (F := F)) c) Q := by
  unfold run; rw [k0_part18_eq_skeleton]; unfold k0_part18_skel
  simp only [Prog.lift, Prog.bind_op, Prog.bind_ret, Prog.pure_eq_ret]
  refine chain (step_drain m K c 14 rfl (by decide) (by decide) rfl rfl) ?_
  refine chain (step_drain m K c 15 rfl (by decide) (by decide) rfl rfl) ?_
  refine chain (step_drain m K c 17 rfl (by decide) (by decide) rfl rfl) ?_
  refine chain (step_drain m K c 2 rfl (by decide) (by decide) rfl rfl) ?_
  refine chain (step_drain m K c 4 rfl (by decide) (by decide) rfl rfl) ?_
  refine chain (step_drain m K c 9 rfl (by decide) (by decide) rfl rfl) ?_
  rw [wp_ret]; exact (h _).trans fupd_intro

/-- The nineteenth part drains 11, drains 16, drains 18, drains 5, drains 6, drains 12. -/
theorem part19 {R : sProp 𝕄} {Q : _ → sProp 𝕄} (h : ∀ r, iprop(ctx m K ∗ St m c 21 21 18 ∗ R) ⊢ Q r) :
    iprop(ctx m K ∗ St m c 21 21 12 ∗ R) ⊢ wpc c (run (k0_part19 (F := F)) c) Q := by
  unfold run; rw [k0_part19_eq_skeleton]; unfold k0_part19_skel
  simp only [Prog.lift, Prog.bind_op, Prog.bind_ret, Prog.pure_eq_ret]
  refine chain (step_drain m K c 11 rfl (by decide) (by decide) rfl rfl) ?_
  refine chain (step_drain m K c 16 rfl (by decide) (by decide) rfl rfl) ?_
  refine chain (step_drain m K c 18 rfl (by decide) (by decide) rfl rfl) ?_
  refine chain (step_drain m K c 5 rfl (by decide) (by decide) rfl rfl) ?_
  refine chain (step_drain m K c 6 rfl (by decide) (by decide) rfl rfl) ?_
  refine chain (step_drain m K c 12 rfl (by decide) (by decide) rfl rfl) ?_
  rw [wp_ret]; exact (h _).trans fupd_intro

end Cert.Gather

end
-- ==== Proof.Ends.lean ====
/-
The first and the last part of the body, and the fifth: the two barriers, the stores, the product.
-/
module

public import proofs.«01_k».proof.Proof.Parts
public import Idealize.ShloMosaic.Lib.Pipeline.ValueKit

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 44 → ℕ) (c : Dev nD)

omit [FloatOps F] in
/-- A separating conjunction over three. -/
theorem bigSep_three (Φ : Fin 3 → sProp 𝕄) : bigSep Finset.univ Φ = iprop(Φ 0 ∗ Φ 1 ∗ Φ 2) := by
  rw [bigSep_univ_eq_bigSepL [0, 1, 2] (by decide) (by decide)]; rfl

/-! ## A barrier -/

/-- A barrier of the device and its three partners: one unit to each, then the wait for three. What the partners' duties
    hand over is given, what the own cell's duties hand over is received, and the cell is closed. -/
theorem step_meet {q : Sem sig} {ix : Fin 44} (hq : ∀ x : Dev nD, kcell (x, ix) = ((x : Thread nD τ), .reg q)) {n : ℕ}
    (hl : lv ((c : Thread nD τ), .reg q) () ≤ n) {O : CellTallies nD τ sig Unit} (hO : Above n O)
    {n0 n1 n2 : Dev nD} (h0 : n0.val = (pr c (mk 0)).val) (h1 : n1.val = (pr c (mk 1)).val) (h2 : n2.val = (pr c (mk 2)).val)
    {α : Type} {Q : α → sProp 𝕄} {k : PUnit → Prog (TpuEff nD τ sig (Elt F) Λ₀ .tc) α} :
    iprop(ctx m K ∗ ((∃ W, owes (c : Thread nD τ) (O + unitTo q c 2 + unitTo q c 1 + unitTo q c 0) W)
        ∗ (bigSep Finset.univ fun d => dutyTok ER ((pr c (mk d) : Thread nD τ), .reg q) 0 d)
        ∗ (bigSep Finset.univ fun d => (sched m).payload ((pr c (mk d) : Thread nD τ), .reg q) 0 d)
        ∗ cred (tallyAt ((c : Thread nD τ), .reg q) () 3) ∗ atPos ER ((c : Thread nD τ), .reg q) 0 ∅ 0))
      ⊢ iprop((((∃ W, owes (c : Thread nD τ) O W) ∗ semVal ((c : Thread nD τ), .reg q) 0
            ∗ bigSep ((sched (F := F) m).duties ((c : Thread nD τ), .reg q) 0 \ ∅) (fun d => (sched (F := F) m).payload ((c : Thread nD τ), .reg q) 0 d))
          -∗ wpc c (k ⟨⟩) Q)
        -∗ wpc c (.op (.semSignal (n0, .tc) q (1#32).toInt) fun _ => .op (.semSignal (n1, .tc) q (1#32).toInt) fun _ =>
            .op (.semSignal (n2, .tc) q (1#32).toInt) fun _ => .op (.semWait q (3#32).toInt) k) Q) := by
  have e0 : n0 = pr c (mk 0) := Fin.ext h0
  have e1 : n1 = pr c (mk 1) := Fin.ext h1
  have e2 : n2 = pr c (mk 2) := Fin.ext h2
  subst e0 e1 e2
  rw [bigSep_three, bigSep_three]
  iintro ⟨#Hc, ⟨%W, Ho⟩, ⟨Ht0, Ht1, Ht2⟩, ⟨Hp0, Hp1, Hp2⟩, Hcr, Hat⟩ Hk
  iapply (Rounds.wp_signal 𝒱₀ ER (sched m) (c : Thread nD τ) none (dst := (pr c (mk 0) : Thread nD τ)) (κ := K (pr c (mk 0), ix))
      (d := 0) (by rw [duties_reg]; exact Finset.mem_univ _) ((amount_reg m (pr c (mk 0)) 0 q).trans (by decide)) ()
      (O + unitTo q c 2 + unitTo q c 1) rfl) $$ [Ho Ht0 Hp0]
  · isplitr; · iapply (ctx_inv m K (pr c (mk 0), ix) (hq _)); iexact Hc
    isplitl [Ho]; · iexact Ho
    isplitl [Ht0]; · iexact Ht0
    isplitl [Hp0]; · iexact Hp0
    iapply (ctx_reached m K (pr c (mk 0), ix) (hq _)); iexact Hc
  iintro Ho
  iapply (Rounds.wp_signal 𝒱₀ ER (sched m) (c : Thread nD τ) none (dst := (pr c (mk 1) : Thread nD τ)) (κ := K (pr c (mk 1), ix))
      (d := 1) (by rw [duties_reg]; exact Finset.mem_univ _) ((amount_reg m (pr c (mk 1)) 1 q).trans (by decide)) ()
      (O + unitTo q c 2) rfl) $$ [Ho Ht1 Hp1]
  · isplitr; · iapply (ctx_inv m K (pr c (mk 1), ix) (hq _)); iexact Hc
    isplitl [Ho]; · iexact Ho
    isplitl [Ht1]; · iexact Ht1
    isplitl [Hp1]; · iexact Hp1
    iapply (ctx_reached m K (pr c (mk 1), ix) (hq _)); iexact Hc
  iintro Ho
  iapply (Rounds.wp_signal 𝒱₀ ER (sched m) (c : Thread nD τ) none (dst := (pr c (mk 2) : Thread nD τ)) (κ := K (pr c (mk 2), ix))
      (d := 2) (by rw [duties_reg]; exact Finset.mem_univ _) ((amount_reg m (pr c (mk 2)) 2 q).trans (by decide)) ()
      O rfl) $$ [Ho Ht2 Hp2]
  · isplitr; · iapply (ctx_inv m K (pr c (mk 2), ix) (hq _)); iexact Hc
    isplitl [Ho]; · iexact Ho
    isplitl [Ht2]; · iexact Ht2
    isplitl [Hp2]; · iexact Hp2
    iapply (ctx_reached m K (pr c (mk 2), ix) (hq _)); iexact Hc
  iintro Ho
  iapply (Rounds.wp_wait_rest_token 𝒱₀ ER (sched m) (c : Thread nD τ) none (κ := K (c, ix))
      (wpE_semWait_eq 𝒱₀ (c : Thread nD τ) none Set.univ) (Set.mem_univ _) () (O := O) (W := W) (R := 0) (m := 0) (T := ∅)
      (by rw [expect_reg]; decide)) $$ [Hcr Ho Hat]
  · isplitr; · iapply (ctx_inv m K (c, ix) (hq _)); iexact Hc
    isplitl [Hcr]; · iexact Hcr
    isplitl [Ho]; · iexact Ho
    isplitr
    · iapply (mayWait c (.reg q) hl hO)
      iapply (ctx_lev m K); iexact Hc
    iexact Hat
  iintro ⟨Ho, Hat, -, Hpay⟩
  imod (Rounds.cell_close ER (sched m) (Set.mem_univ (K (c, ix))) (fun h => h) (R := 0 + 1) (duties_later m ((c : Thread nD τ), .reg q))) $$ [Hat] with Hz
  · isplitr; · iapply (ctx_inv m K (c, ix) (hq _)); iexact Hc
    iexact Hat
  iapply Hk
  isplitl [Ho]; · iexists _; iexact Ho
  isplitl [Hz] <;> iassumption

/-! ## The own rows -/

/-- The rows of a device's own block. -/
def own (c : Dev nD) : Finset S2048x2048.Idx := (Finset.univ : Finset (Fin 3)).biUnion fun j => slot j c

/-- A stripe of the own block belongs to it. -/
theorem slot_own (j : Fin 3) : slot j c ⊆ own c := Finset.subset_biUnion_of_mem (fun j => slot j c) (Finset.mem_univ j)

/-- Membership in the own block is a condition on the row. -/
theorem mem_own {i : S2048x2048.Idx} : i ∈ own c ↔ 256 * c.val ≤ (i 0).val ∧ (i 0).val < 256 * c.val + 256 := by
  unfold own
  simp only [Finset.mem_biUnion, Finset.mem_univ, true_and, mem_slot]
  constructor
  · rintro ⟨j, h⟩
    rcases stripe_cases j with ⟨-, h1, h2⟩ | ⟨-, h1, h2⟩ | ⟨-, h1, h2⟩ <;> rw [h1, h2] at h <;> omega
  · intro h
    rcases Nat.lt_or_ge (i 0).val (256 * c.val + 96) with h' | h'
    · exact ⟨0, by show _ + 0 ≤ _ ∧ _ < _ + 0 + 96; omega⟩
    · rcases Nat.lt_or_ge (i 0).val (256 * c.val + 176) with h'' | h''
      · exact ⟨1, by show _ + 96 ≤ _ ∧ _ < _ + 96 + 80; omega⟩
      · exact ⟨2, by show _ + 176 ≤ _ ∧ _ < _ + 176 + 80; omega⟩

omit [FloatOps F] in
/-- The own block is its three stripes. -/
theorem own_eq (f : S2048x2048.Idx → Elt F .bf16) :
    cPts c (own c) fullShare f = (bigSep Finset.univ fun j : Fin 3 => cPts c (slot j c) fullShare f : sProp 𝕄) := by
  unfold own cPts
  refine pointsTo_biUnion _ _ fun j _ j' _ h => ?_
  have := slot_disjoint c (j, 0) (j', 0) fun e => h (congrArg Prod.fst e)
  rwa [pr_zero] at this

omit [FloatOps F] in
/-- The whole matrix is its places: the own block and the places where transfers land. -/
theorem whole_eq (f : S2048x2048.Idx → Elt F .bf16) :
    cPts c Finset.univ fullShare f
      = (bigSep Finset.univ fun p : Pc => cPts c (slot p.1 (pr c p.2)) fullShare f : sProp 𝕄) := by
  rw [← slot_cover c]
  unfold cPts
  exact pointsTo_biUnion _ _ fun p _ p' _ h => slot_disjoint c p p' h

omit [FloatOps F] in
/-- A landing place holding something. -/
theorem land_of (s : Tr) (f : S2048x2048.Idx → Elt F .bf16) :
    (cPts c (slot (dst s).1 (pr c (dst s).2)) fullShare f : sProp 𝕄) ⊢ land (F := F) c s := by
  unfold land
  iintro H; iexists f; iexact H

omit [FloatOps F] in
/-- At the start the matrix splits into the own block and the landing places, holding anything. -/
theorem whole_split (f : S2048x2048.Idx → Elt F .bf16) :
    cPts c Finset.univ fullShare f ⊢ iprop(cPts c (own c) fullShare f ∗ bigSep Finset.univ fun s : Tr => land (F := F) c s) := by
  rw [whole_eq, bigSep_univ_equiv places, bigSep_univ_sum, own_eq]
  refine BI.sep_mono (Entails.of_eq (bigSep_congr fun j _ => ?_)) (bigSep_mono fun s _ => ?_)
  · show cPts c (slot j (pr c 0)) fullShare f = _
    rw [pr_zero]
  · exact land_of c s f

/-- The rectangle of the own block. -/
abbrev ownR : Rect S2048x2048 := Rect.unit (s := S2048x2048) (k0_off1 c) S256x2048.size (k0_off1_inb c)

/-- The rectangle covers the own block. -/
theorem ownR_set : (cM.access (ownR c)).set = own c := by
  show ((View.whole cc0_scratch0).slice (ownR c)).set = own c
  rw [View.set_slice_whole]
  ext i
  rw [Rect.mem_set_unit, mem_own, off1_eq]
  refine Iff.trans (Fin.forall_fin_two (p := fun a => ![256 * c.val, 0] a ≤ (i a).val ∧ (i a).val < ![256 * c.val, 0] a + S256x2048.size a)) ?_
  have h1 : (i 1).val < 2048 := (i 1).isLt
  constructor
  · rintro ⟨h, -⟩; exact h
  · intro h; exact ⟨h, Nat.zero_le _, by show (i 1).val < 0 + 2048; omega⟩

omit [FloatOps F] in
/-- The gathered matrix at a row of the own block. -/
theorem gath_own (y : S256x2048.Idx) (i : S2048x2048.Idx) (h0 : (i 0).val = 256 * c.val + (y 0).val) (h1 : (i 1).val = (y 1).val) :
    gath m i = xstg m c y := by
  have hy : (y 0).val < 256 := (y 0).isLt
  unfold gath
  have e1 : (⟨(i 0).val / 256, by have := (i 0).isLt; show _ < 8; have h : (i 0).val < 2048 := (i 0).isLt; omega⟩ : Dev nD) = c :=
    Fin.ext (by show (i 0).val / 256 = c.val; omega)
  have e2 : (ix2 ⟨(i 0).val % 256, Nat.mod_lt _ (by decide)⟩ (i 1) : S256x2048.Idx) = y :=
    funext fun a => Fin.ext (by
      revert a
      refine (Fin.forall_fin_two (p := fun a => ((ix2 ⟨(i 0).val % 256, Nat.mod_lt _ (by decide)⟩ (i 1) : S256x2048.Idx) a).val = (y a).val)).mpr ⟨?_, h1⟩
      show (i 0).val % 256 = (y 0).val
      omega)
  show xstg m _ _ = _
  rw [e1, e2]

/-- The stored block, read where it lies, is the gathered matrix. -/
theorem own_write (f : S2048x2048.Idx → Elt F .bf16) :
    cPts c (own c) fullShare ((cM.access (ownR c)).write (Elt F) f (k0_pay1 (xstg m c)) Finset.univ) = cPts c (own c) fullShare (gath m) := by
  refine pointsTo_congr fun i hi => ?_
  rw [← ownR_set] at hi
  obtain ⟨y, -, rfl⟩ := Finset.mem_map.mp hi
  rw [View.write_emb_of_mem _ _ (Finset.mem_univ y)]
  refine Eq.trans (b := xstg m c y) ?_ (gath_own m c y _ ?_ ?_).symm
  · unfold k0_pay1; simp only [shapeCast_self]; rfl
  · refine (ValueKit.view_emb_slice_whole_unit_val cc0_scratch0 _ _ (k0_off1_inb c) y 0).trans ?_
    exact congrArg (· + (y 0).val) (congrFun (off1_eq c) 0)
  · refine (ValueKit.view_emb_slice_whole_unit_val cc0_scratch0 _ _ (k0_off1_inb c) y 1).trans ?_
    exact (congrArg (· + (y 1).val) (congrFun (off1_eq c) 1)).trans (Nat.zero_add _)

end Cert.Gather

end
-- ==== Proof.Body.lean ====
/-
The whole body: the entry barrier and the own block, the twenty parts, the product, the exit barrier.
-/
module

public import proofs.«01_k».proof.Proof.Ends

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 44 → ℕ) (c : Dev nD)

/-! ## Before the first step and after the last -/

/-- A buffer of device `c`, whole, holding `f`. -/
abbrev bufPts (c : Dev nD) (b : Ref sig .tc) (f : b.ty.Contents (Elt F)) : sProp 𝕄 := ((c : Thread nD τ).loc b) ↦{fullShare} f

/-- A barrier's tokens, credit and place of device `c`. -/
def meetPre (q : Sem sig) (c : Dev nD) : sProp 𝕄 :=
  iprop((bigSep Finset.univ fun d => dutyTok ER ((pr c (mk d) : Thread nD τ), .reg q) 0 d)
    ∗ cred (tallyAt ((c : Thread nD τ), .reg q) () 3) ∗ atPos ER ((c : Thread nD τ), .reg q) 0 ∅ 0)
/-- The tokens and the place of a transfer at its sender. -/
def sendPre (c : Dev nD) (s : Tr) : sProp 𝕄 :=
  iprop(dutyTok ER (sendCell c s) 0 (0 : Fin 3) ∗ dutyTok ER (recvCell (pr c (om s)) s) 0 (0 : Fin 3) ∗ atPos ER (sendCell c s) 0 ∅ 0)
/-- What a device holds at the start, without the staged blocks. -/
def Pre (c : Dev nD) : sProp 𝕄 :=
  iprop((∃ W, owes (c : Thread nD τ) (O₀ c) W) ∗ meetPre barS c ∗ (bigSep Finset.univ fun s => sendPre c s)
    ∗ (bigSep Finset.univ fun s => recvSt 0 c s) ∗ ∃ f, cPts c Finset.univ fullShare f)

omit [FloatOps F] in
/-- The landing places of a device are what it hands its partners at the entry barrier. -/
theorem land_pays : (bigSep Finset.univ fun s : Tr => land (F := F) c s) = bigSep Finset.univ fun d : Fin 3 => barPay (F := F) (pr c (mk d)) d := by
  rw [bigSep_fiberwise (Finset.univ : Finset Tr) mi, show (Finset.univ : Finset Tr).image mi = Finset.univ by decide]
  refine bigSep_congr fun d _ => ?_
  unfold barPay
  rw [pr_pr]

omit [FloatOps F] in
/-- Nothing may be added. -/
theorem beside_emp (X : sProp 𝕄) : X ⊢ iprop(X ∗ emp) := by
  iintro H
  isplitl [H]; · iexact H
  iempintro

omit [FloatOps F] in
/-- Nothing, many times over, is nothing. -/
theorem emp_all {I : Type} (s : Finset I) : (bigSep s fun _ => iprop(emp)) = (iprop(emp) : sProp 𝕄) := bigSep_emp_const s

omit [FloatOps F] in
/-- Elements of the matrix, as the rectangle of the own block sees them. -/
theorem cPts_own (I : Finset S2048x2048.Idx) (f : S2048x2048.Idx → Elt F .bf16) :
    cPts c I fullShare f = ((cM.access (ownR c)).loc (c : Thread nD τ) ↦[I]{fullShare} f : sProp 𝕄) := rfl

omit [FloatOps F] in
/-- The matrix as a buffer of the device. -/
theorem cPts_buf (f : S2048x2048.Idx → Elt F .bf16) : cPts c Finset.univ fullShare f = bufPts c cc0_scratch0 f := rfl

omit [FloatOps F] in
/-- The own stripes, stored, are all that is filled before the first transfer. -/
theorem places_init : cPts c (own c) fullShare (gath m) ⊢ (bigSep Finset.univ fun p => placeSt m 0 0 0 c p : sProp 𝕄) := by
  rw [bigSep_univ_equiv places, bigSep_univ_sum, own_eq]
  have e2 : (bigSep Finset.univ fun s : Tr => placeSt m 0 0 0 c (places (Sum.inr s))) = (iprop(emp) : sProp 𝕄) :=
    (bigSep_congr fun s _ => if_neg (show ¬ Got 0 (dst s) by
      rintro (h | ⟨t, h, -⟩)
      · exact mu_ne s h
      · exact Nat.not_lt_zero _ h)).trans (bigSep_emp_const _)
  have e1 : (bigSep Finset.univ fun j : Fin 3 => placeSt m 0 0 0 c (places (Sum.inl j)))
      = (bigSep Finset.univ fun j : Fin 3 => cPts c (slot j c) fullShare (gath m) : sProp 𝕄) :=
    bigSep_congr fun j _ => (if_pos (show Got 0 (j, 0) from Or.inl rfl)).trans
      ((bigSep_congr fun i _ => if_neg (show ¬ Lent 0 0 (j, 0) i by rintro ⟨t, -, h, -⟩; exact Nat.not_lt_zero _ h)).trans
        ((full_eq m c (j, 0)).symm.trans (by unfold full; rw [pr_zero])))
  rw [e1, e2]
  exact beside_emp _

omit [FloatOps F] in
/-- The state before the first transfer. -/
theorem St_init :
    iprop((∃ W, owes (c : Thread nD τ) (Osend 0 c + Oend c) W) ∗ (bigSep Finset.univ fun s => sendPre c s)
        ∗ (bigSep Finset.univ fun s => land (F := F) (pr c (om s)) s)
        ∗ (bigSep Finset.univ fun s => recvSt 0 c s) ∗ cPts c (own c) fullShare (gath m)) ⊢ St m c 0 0 0 := by
  unfold St
  iintro ⟨Ho, HS, HL, HR, Hx⟩
  isplitl [Ho]; · iexact Ho
  isplitl [HS HL]
  · iapply (show iprop((bigSep Finset.univ fun s => sendPre (F := F) c s) ∗ bigSep Finset.univ fun s => land (F := F) (pr c (om s)) s)
        ⊢ bigSep Finset.univ fun s => sendSt (F := F) 0 0 c s by
      rw [← bigSep_sep']
      refine bigSep_mono fun s _ => ?_
      unfold sendPre sendSt
      rw [if_pos (Nat.zero_le _)]
      exact (show iprop((dutyTok ER (sendCell c s) 0 (0 : Fin 3) ∗ dutyTok ER (recvCell (pr c (om s)) s) 0 (0 : Fin 3)
          ∗ atPos ER (sendCell c s) 0 ∅ 0) ∗ land (F := F) (pr c (om s)) s) ⊢ iprop(dutyTok ER (sendCell c s) 0 (0 : Fin 3)
          ∗ dutyTok ER (recvCell (pr c (om s)) s) 0 (0 : Fin 3) ∗ land (F := F) (pr c (om s)) s ∗ atPos ER (sendCell c s) 0 ∅ 0) by
        iintro ⟨⟨H1, H2, H3⟩, H4⟩
        isplitl [H1]; · iexact H1
        isplitl [H2]; · iexact H2
        isplitl [H4] <;> iassumption))
    isplitl [HS] <;> iassumption
  isplitl [HR]; · iexact HR
  iapply (places_init m c); iexact Hx

omit [FloatOps F] in
/-- The state after the last drain: nothing more is owed for transfers, their cells are closed, the matrix is gathered. -/
theorem St_final : St m c 21 21 21 ⊢ iprop((∃ W, owes (c : Thread nD τ) (Oend c) W) ∗ (bigSep Finset.univ fun s => semVal (sendCell c s) 0)
    ∗ (bigSep Finset.univ fun s => semVal (recvCell c s) 0) ∗ cPts c Finset.univ fullShare (gath m)) := by
  unfold St
  rw [Osend_last, zero_add, whole_eq,
    bigSep_congr (Φ := fun s => sendSt (F := F) 21 21 c s) (Ψ := fun s => semVal (sendCell c s) 0)
      (fun s _ => by have := posS_lt s; exact (if_neg (by omega)).trans (if_neg (by omega))),
    bigSep_congr (Φ := fun s => recvSt (F := F) 21 c s) (Ψ := fun s => semVal (recvCell c s) 0)
      (fun s _ => by have := posR_lt s; exact if_neg (by omega)),
    bigSep_congr (Φ := fun p => placeSt m 21 21 21 c p) (Ψ := fun p => full m c p) (fun p _ => by
      have hg : Got 21 p := by revert p; decide
      exact (if_pos hg).trans ((bigSep_congr fun i _ => if_neg (by rintro ⟨t, h1, h2, -⟩; omega)).trans (full_eq m c p).symm))]
  exact Entails.refl _

/-- Offsets at the origin. -/
theorem hz0 : (![0, 0] : Fin 2 → Nat) = fun _ => 0 := funext fun a => by revert a; decide

omit [FloatOps F] in
/-- Loading the whole staged left block. -/
theorem read_x (f : S256x2048.Idx → Elt F .bf16) :
    xM.view.readAt (Elt F) (Rect.unit (s := S256x2048) ![0, 0] ![256, 2048] inb_S256x2048_S256x2048_0_0).toLoadRect f = f :=
  Memref.readAt_unit_zero (Elt F) cc0_stg0_0 hz0 _ f
omit [FloatOps F] in
/-- Loading the whole staged right block. -/
theorem read_w (f : S2048x256.Idx → Elt F .bf16) :
    wM.view.readAt (Elt F) (Rect.unit (s := S2048x256) ![0, 0] ![2048, 256] inb_S2048x256_S2048x256_0_0).toLoadRect f = f :=
  Memref.readAt_unit_zero (Elt F) cc0_stg1_0 hz0 _ f
omit [FloatOps F] in
/-- Loading the whole copy of the right block. -/
theorem read_b (f : S2048x256.Idx → Elt F .bf16) :
    bM.view.readAt (Elt F) (Rect.unit (s := S2048x256) ![0, 0] ![2048, 256] inb_S2048x256_S2048x256_0_0).toLoadRect f = f :=
  Memref.readAt_unit_zero (Elt F) cc0_scratch1 hz0 _ f
omit [FloatOps F] in
/-- Loading the whole matrix. -/
theorem read_c (f : S2048x2048.Idx → Elt F .bf16) :
    cM.view.readAt (Elt F) (Rect.unit (s := S2048x2048) ![0, 0] ![2048, 2048] inb_S2048x2048_S2048x2048_0_0).toLoadRect f = f :=
  Memref.readAt_unit_zero (Elt F) cc0_scratch0 hz0 _ f
omit [FloatOps F] in
/-- Storing the whole copy of the right block. -/
theorem write_b (f w : S2048x256.Idx → Elt F .bf16) :
    (bM.access (Rect.unit (s := S2048x256) ![0, 0] ![2048, 256] inb_S2048x256_S2048x256_0_0)).write (Elt F) f w Finset.univ = w :=
  Memref.write_access_unit_zero_univ (Elt F) cc0_scratch1 hz0 _ f w
omit [FloatOps F] in
/-- Storing the whole result. -/
theorem write_o (f w : S2048x256.Idx → Elt F .f32) :
    (oM.access (Rect.unit (s := S2048x256) ![0, 0] ![2048, 256] inb_S2048x256_S2048x256_0_0)).write (Elt F) f w Finset.univ = w :=
  Memref.write_access_unit_zero_univ (Elt F) cc0_stg2_0 hz0 _ f w

/-- The stored right operand is the loaded one. -/
theorem pay2_eq (w : Vec F S2048x256 .bf16) : k0_pay2 w = w := by
  unfold k0_pay2; simp only [shapeCast_self]

/-! ## The first part, the fifth and the last -/

/-- The first part: the entry barrier, then the own block into the matrix. -/
theorem part1 {R : sProp 𝕄} {Q : _ → sProp 𝕄}
    (h : ∀ r, r.1 = c → iprop(ctx m K ∗ St m c 0 0 0 ∗ (semVal (barCell c) 0 ∗ bufPts c cc0_stg0_0 (xstg m c) ∗ R)) ⊢ Q r) :
    iprop(ctx m K ∗ Pre c ∗ (bufPts c cc0_stg0_0 (xstg m c) ∗ R)) ⊢ wpc c (run (k0_part1 (F := F))) Q := by
  unfold run; rw [k0_part1_eq_skeleton]; unfold k0_part1_skel
  simp only [semSignalWord, semWaitWord, Prog.lift, Prog.bind_op, Prog.bind_ret, Prog.pure_eq_ret, wp_deviceId]
  unfold Pre meetPre
  iintro ⟨#Hc, ⟨Ho, ⟨Ht, Hcr, Hat⟩, HS, HR, ⟨%f, Hf⟩⟩, Hx, Hrest⟩
  ihave Hf := (whole_split c f) $$ Hf
  icases Hf with ⟨Hf, Hl⟩
  ihave Hl := (Entails.of_eq ((land_pays c).trans (bigSep_congr fun d _ => (payload_bar m (pr c (mk d)) d).symm))) $$ Hl
  iapply (step_meet m K c (q := barS) (ix := 0) kcell_bar (n := 1) (le_of_eq (lv_bar c)) (O := Osend 0 c + Oend c)
    ((above_Osend c fun s _ => by omega).add (above_Oend c (by decide))) (dev1_eq c) (dev2_eq c) (dev3_eq c)) $$ [Ho Ht Hcr Hat Hl]
  · isplitr; · iexact Hc
    isplitl [Ho]; · iexact Ho
    isplitl [Ht]; · iexact Ht
    isplitl [Hl]; · iexact Hl
    isplitl [Hcr] <;> iassumption
  iintro ⟨Ho, Hz, Hl⟩
  ihave Hl := (Entails.of_eq (rest_bar m c)) $$ Hl
  iapply (wp_load 𝒱₀ (c : Thread nD τ) none Set.univ (m := xM) (Finset.subset_univ _)) $$ Hx; iintro Hx
  rw [read_x]
  ihave Hf := (Entails.of_eq (cPts_own c (own c) f)) $$ Hf
  iapply (wp_load_rect 𝒱₀ (c : Thread nD τ) none Set.univ (m := cM) (r := ownR c) (S := own c) (ownR_set c).le) $$ Hf; iintro Hf
  iapply (wp_store 𝒱₀ (c : Thread nD τ) none Set.univ (m := cM) (r := ownR c) (Mk := Finset.univ) (S := own c) (ownR_set c).le) $$ Hf; iintro Hf
  ihave Hf := (Entails.of_eq ((cPts_own c (own c) _).symm.trans (own_write m c f))) $$ Hf
  rw [wp_ret]; imodintro
  iapply (h _ rfl)
  isplitr; · iexact Hc
  isplitl [Ho HS HR Hl Hf]
  · iapply (St_init m c)
    isplitl [Ho]; · iexact Ho
    isplitl [HS]; · iexact HS
    isplitl [Hl]; · iexact Hl
    isplitl [HR] <;> iassumption
  isplitl [Hz]; · iexact Hz
  isplitl [Hx] <;> iassumption

/-- The fifth part starts transfer 17, copies the right operand, and awaits transfer 0. -/
theorem part5 (v2 v117 : BitVec 32) {R : sProp 𝕄} {Q : _ → sProp 𝕄}
    (h : ∀ r, iprop(ctx m K ∗ St m c 9 1 0 ∗ (bufPts c cc0_stg1_0 (wstg m c) ∗ bufPts c cc0_scratch1 (wstg m c) ∗ R)) ⊢ Q r) :
    iprop(ctx m K ∗ St m c 8 0 0 ∗ (bufPts c cc0_stg1_0 (wstg m c) ∗ (∃ f, bufPts c cc0_scratch1 f) ∗ R)) ⊢ wpc c (run (k0_part5 (F := F)) c v2 v117) Q := by
  unfold run; rw [k0_part5_eq_skeleton]; unfold k0_part5_skel
  simp only [Prog.lift, Prog.bind_op, Prog.bind_ret, Prog.pure_eq_ret]
  refine chain (step_send m K c 17 rfl (by decide) (by decide) rfl (off3_0' c) (dev12_eq c) rfl rfl) ?_
  iintro ⟨#Hc, HSt, Hw, ⟨%f, Hb⟩, Hrest⟩
  iapply (wp_load 𝒱₀ (c : Thread nD τ) none Set.univ (m := wM) (Finset.subset_univ _)) $$ Hw; iintro Hw
  rw [read_w]
  iapply (wp_load 𝒱₀ (c : Thread nD τ) none Set.univ (m := bM) (Finset.subset_univ _)) $$ Hb; iintro Hb
  iapply (wp_store 𝒱₀ (c : Thread nD τ) none Set.univ (m := bM) (r := Rect.unit (s := S2048x256) ![0, 0] ![2048, 256] inb_S2048x256_S2048x256_0_0) (Mk := Finset.univ) (Finset.subset_univ _)) $$ Hb; iintro Hb
  rw [write_b, pay2_eq]
  iapply (chain (R := iprop(bufPts c cc0_stg1_0 (wstg m c) ∗ bufPts c cc0_scratch1 (wstg m c) ∗ R))
    (step_recv (a := 9) (b := 0) (d := 0) m K c 0 rfl (by decide) (by decide) rfl rfl) (by rw [wp_ret]; exact (h _).trans fupd_intro))
  isplitr; · iexact Hc
  isplitl [HSt]; · iexact HSt
  isplitl [Hw]; · iexact Hw
  isplitl [Hb] <;> iassumption

/-- What a device computes: its product of the gathered left operand with its block of the right one. -/
def outAt (c : Dev nD) : S2048x256.Idx → Elt F .f32 := k0_pay3 (gath m) (wstg m c)

/-- What a device holds after the product, before the exit barrier. -/
def Done (c : Dev nD) : sProp 𝕄 :=
  iprop((∃ W, owes (c : Thread nD τ) (Oend c) W) ∗ (bigSep Finset.univ fun s => semVal (sendCell c s) 0)
    ∗ (bigSep Finset.univ fun s => semVal (recvCell c s) 0) ∗ cPts c Finset.univ fullShare (gath m) ∗ semVal (barCell c) 0
    ∗ bufPts c cc0_stg0_0 (xstg m c) ∗ bufPts c cc0_stg1_0 (wstg m c) ∗ bufPts c cc0_scratch1 (wstg m c) ∗ bufPts c cc0_stg2_0 (outAt m c))

/-- The staged blocks, the buffer of the right operand and the staged result before the body. -/
def Bufs (c : Dev nD) : sProp 𝕄 :=
  iprop(bufPts c cc0_stg0_0 (xstg m c) ∗ bufPts c cc0_stg1_0 (wstg m c) ∗ (∃ f, bufPts c cc0_scratch1 f) ∗ ∃ f, bufPts c cc0_stg2_0 f)

/-- One fragment, then the rest. -/
theorem seq {α β : Type} {p : Prog (TpuEff nD τ sig (Elt F) Λ₀ .tc) α} {k : α → Prog (TpuEff nD τ sig (Elt F) Λ₀ .tc) β}
    {P : sProp 𝕄} {Q : β → sProp 𝕄} (h : P ⊢ wpc c p fun r => wpc c (k r) Q) : P ⊢ wpc c (p >>= k) Q := by
  show P ⊢ wp _ _ _ (p >>= k) Q
  rw [wp_bind]; exact h

/-- The last part runs all others, then multiplies. -/
theorem part20 {R : sProp 𝕄} {Q : _ → sProp 𝕄} (h : ∀ r, r.1 = c → iprop(ctx m K ∗ Done m c ∗ R) ⊢ Q r) :
    iprop(ctx m K ∗ (Pre c ∗ Bufs m c) ∗ R) ⊢ wpc c (run (k0_part20 (F := F))) Q := by
  unfold run; rw [k0_part20_eq_skeleton]; unfold k0_part20_skel Bufs
  have e1 : iprop(ctx m K ∗ (Pre c ∗ (bufPts c cc0_stg0_0 (xstg m c) ∗ bufPts c cc0_stg1_0 (wstg m c)
      ∗ (∃ f, bufPts c cc0_scratch1 f) ∗ ∃ f, bufPts c cc0_stg2_0 f)) ∗ R) ⊢ iprop(ctx m K ∗ Pre c ∗ (bufPts c cc0_stg0_0 (xstg m c) ∗ bufPts c cc0_stg1_0 (wstg m c)
      ∗ (∃ f, bufPts c cc0_scratch1 f) ∗ (∃ f, bufPts c cc0_stg2_0 f) ∗ R)) := by
    iintro ⟨#Hc, ⟨HP, Hx, Hw, Hb, Ho⟩, Hr⟩
    isplitr; · iexact Hc
    isplitl [HP]; · iexact HP
    isplitl [Hx]; · iexact Hx
    isplitl [Hw]; · iexact Hw
    isplitl [Hb]; · iexact Hb
    isplitl [Ho] <;> iassumption
  refine e1.trans ?_
  refine seq _ (part1 m K c fun r hr => ?_)
  obtain ⟨d0, v2, v3, v4, v5⟩ := r
  dsimp only at hr ⊢
  subst hr
  refine seq _ (part2 m K d0 v2 fun r => ?_)
  obtain ⟨v56, v57, v58⟩ := r; dsimp only
  refine seq _ (part3 m K d0 v2 _ _ _ fun _ => ?_)
  refine seq _ (part4 m K d0 v2 fun v117 => ?_)
  have e5 : iprop(ctx m K ∗ St m d0 8 0 0 ∗ (semVal (barCell d0) 0 ∗ bufPts d0 cc0_stg0_0 (xstg m d0) ∗ bufPts d0 cc0_stg1_0 (wstg m d0)
      ∗ (∃ f, bufPts d0 cc0_scratch1 f) ∗ (∃ f, bufPts d0 cc0_stg2_0 f) ∗ R)) ⊢ iprop(ctx m K ∗ St m d0 8 0 0 ∗ (bufPts d0 cc0_stg1_0 (wstg m d0) ∗ (∃ f, bufPts d0 cc0_scratch1 f)
      ∗ (semVal (barCell d0) 0 ∗ bufPts d0 cc0_stg0_0 (xstg m d0) ∗ (∃ f, bufPts d0 cc0_stg2_0 f) ∗ R))) := by
    iintro ⟨#Hc, HSt, Hz, Hx, Hw, Hb, Ho, Hr⟩
    isplitr; · iexact Hc
    isplitl [HSt]; · iexact HSt
    isplitl [Hw]; · iexact Hw
    isplitl [Hb]; · iexact Hb
    isplitl [Hz]; · iexact Hz
    isplitl [Hx]; · iexact Hx
    isplitl [Ho] <;> iassumption
  refine e5.trans ?_
  refine seq _ (part5 m K d0 v2 _ fun _ => ?_)
  refine seq _ (part6 m K d0 v2 fun v178 => ?_)
  refine seq _ (part7 m K d0 v2 _ fun v211 => ?_)
  refine seq _ (part8 m K d0 v2 _ fun v235 => ?_)
  refine seq _ (part9 m K d0 v2 _ fun r => ?_)
  obtain ⟨v270, v271⟩ := r; dsimp only
  refine seq _ (part10 m K d0 v2 _ _ fun v278 => ?_)
  refine seq _ (part11 m K d0 v2 _ fun r => ?_)
  obtain ⟨v321, v331, v332⟩ := r; dsimp only
  refine seq _ (part12 m K d0 v2 _ _ _ fun _ => ?_)
  refine seq _ (part13 m K d0 v2 fun v364 => ?_)
  refine seq _ (part14 m K d0 v2 _ fun v401 => ?_)
  refine seq _ (part15 m K d0 v2 _ fun r => ?_)
  obtain ⟨v438, v439⟩ := r; dsimp only
  refine seq _ (part16 m K d0 _ _ fun _ => ?_)
  refine seq _ (part17 m K d0 fun _ => ?_)
  refine seq _ (part18 m K d0 fun _ => ?_)
  refine seq _ (part19 m K d0 fun _ => ?_)
  simp only [Prog.lift, Prog.bind_op, Prog.bind_ret, Prog.pure_eq_ret]
  refine chain (step_drain m K d0 13 rfl (by decide) (by decide) rfl rfl) ?_
  refine chain (step_drain m K d0 19 rfl (by decide) (by decide) rfl rfl) ?_
  refine chain (step_drain m K d0 20 rfl (by decide) (by decide) rfl rfl) ?_
  iintro ⟨#Hc, HSt, Hw, Hb, Hz, Hx, ⟨%f, Ho⟩, Hr⟩
  ihave HSt := (show St m d0 21 21 (posS 20 + 1) ⊢ _ from St_final m d0) $$ HSt
  icases HSt with ⟨HO, HS, HR, Hm⟩
  ihave Hm := (Entails.of_eq (cPts_buf d0 (gath m))) $$ Hm
  iapply (wp_load 𝒱₀ (d0 : Thread nD τ) none Set.univ (m := cM) (Finset.subset_univ _)) $$ Hm; iintro Hm
  rw [read_c]
  iapply (wp_load 𝒱₀ (d0 : Thread nD τ) none Set.univ (m := bM) (Finset.subset_univ _)) $$ Hb; iintro Hb
  rw [read_b]
  iapply (wp_load 𝒱₀ (d0 : Thread nD τ) none Set.univ (m := oM) (Finset.subset_univ _)) $$ Ho; iintro Ho
  iapply (wp_store 𝒱₀ (d0 : Thread nD τ) none Set.univ (m := oM) (r := Rect.unit (s := S2048x256) ![0, 0] ![2048, 256] inb_S2048x256_S2048x256_0_0) (Mk := Finset.univ) (Finset.subset_univ _)) $$ Ho; iintro Ho
  rw [write_o, wp_ret]; imodintro
  iapply (h _ rfl)
  isplitr; · iexact Hc
  isplitr [Hr]
  · unfold Done outAt
    rw [cPts_buf]
    isplitl [HO]; · iexact HO
    isplitl [HS]; · iexact HS
    isplitl [HR]; · iexact HR
    isplitl [Hm]; · iexact Hm
    isplitl [Hz]; · iexact Hz
    isplitl [Hx]; · iexact Hx
    isplitl [Hw]; · iexact Hw
    isplitl [Hb] <;> iassumption
  iexact Hr

/-! ## The body -/

/-- What a device holds after the body: the matrix, its cells closed, the staged blocks, the result. -/
def Post (c : Dev nD) : sProp 𝕄 :=
  iprop((bigSep Finset.univ fun s => semVal (sendCell c s) 0) ∗ (bigSep Finset.univ fun s => semVal (recvCell c s) 0)
    ∗ semVal (barCell c) 0 ∗ semVal (endCell c) 0 ∗ cPts c Finset.univ fullShare (gath m) ∗ bufPts c cc0_scratch1 (wstg m c))

/-- The whole body. -/
theorem body_wp {Q : PUnit → sProp 𝕄}
    (h : iprop((∃ W, owes (c : Thread nD τ) 0 W) ∗ Post m c ∗ bufPts c cc0_stg0_0 (xstg m c) ∗ bufPts c cc0_stg1_0 (wstg m c)
      ∗ bufPts c cc0_stg2_0 (outAt m c)) ⊢ Q ⟨⟩) :
    iprop(ctx m K ∗ (Pre c ∗ Bufs m c) ∗ meetPre endS c) ⊢ wpc c (run (cc0_body (F := F))) Q := by
  unfold run; rw [cc0_body_eq_skeleton]; unfold cc0_body_skel
  refine seq _ (part20 m K c fun r hr => ?_)
  obtain ⟨d0, v4, v5, v564⟩ := r
  dsimp only at hr ⊢
  subst hr
  simp only [semSignalWord, semWaitWord, Prog.lift, Prog.bind_op, Prog.bind_ret, Prog.pure_eq_ret]
  unfold Done meetPre
  iintro ⟨#Hc, ⟨Ho, HS, HR, Hm, Hz, Hx, Hw, Hb, Hout⟩, Ht, Hcr, Hat⟩
  iapply (step_meet m K d0 (q := endS) (ix := 1) kcell_end (n := 6) (le_of_eq (lv_end d0)) (O := 0)
    (Above.zero 6) (dev25_eq d0) (dev26_eq d0) (dev27_eq d0)) $$ [Ho Ht Hcr Hat]
  · isplitr; · iexact Hc
    isplitl [Ho]; · rw [zero_add]; iexact Ho
    isplitl [Ht]; · iexact Ht
    isplitr
    · rw [bigSep_congr fun d _ => payload_end m (pr d0 (mk d)) d, emp_all]
      iempintro
    isplitl [Hcr] <;> iassumption
  iintro ⟨Ho, Hz', -⟩
  unfold wpc
  rw [wp_ret]; imodintro
  iapply h
  isplitl [Ho]; · iexact Ho
  isplitr [Hx Hw Hout]
  · unfold Post
    isplitl [HS]; · iexact HS
    isplitl [HR]; · iexact HR
    isplitl [Hz]; · iexact Hz
    isplitl [Hz']; · iexact Hz'
    isplitl [Hm] <;> iassumption
  isplitl [Hx]; · iexact Hx
  isplitl [Hw] <;> iassumption

end Cert.Gather

end
-- ==== Proof.Ghost.lean ====
/-
The launch's ghost state: every device's cells, the tokens dealt to the devices that pay them, and the credits
that the devices' debts make.
-/
module

public import proofs.«01_k».proof.Proof.Body

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells together -/

/-- The kernel's own semaphores: all but the runtime's barrier. -/
abbrev osem : Fin 43 → SemLoc sig := fun k => csem k.succ

/-- The numbers of the cells: two barriers, the send cells, the receive cells. -/
def cellIx : Fin 2 ⊕ (Tr ⊕ Tr) ≃ Fin 44 :=
  Equiv.ofBijective (Sum.elim (fun i => ⟨i.val, by have := i.isLt; omega⟩) (Sum.elim sIx rIx)) (by decide +kernel)
/-- The numbers of the cells: the first and the others. -/
def headIx : Fin 1 ⊕ Fin 43 ≃ Fin 44 :=
  Equiv.ofBijective (Sum.elim (fun _ => 0) Fin.succ) (by decide +kernel)

omit [FloatOps F] in
/-- A separating conjunction over all cell numbers, by kind. -/
theorem bigSep_cells (Φ : Fin 44 → sProp 𝕄) : bigSep Finset.univ Φ
    = iprop(Φ 0 ∗ Φ 1 ∗ (bigSep Finset.univ fun s => Φ (sIx s)) ∗ bigSep Finset.univ fun s => Φ (rIx s)) := by
  rw [bigSep_univ_equiv cellIx, bigSep_univ_sum, bigSep_univ_sum, bigSep_univ_eq_bigSepL [0, 1] (by decide) (by decide), bigSepL_cons_cons,
    bigSepL_singleton]
  exact BI.equiv_iff.mp ⟨BI.sep_assoc, BI.sep_assoc'⟩

omit [FloatOps F] in
/-- A separating conjunction over all cell numbers: the first and the others. -/
theorem bigSep_head (Φ : Fin 44 → sProp 𝕄) : bigSep Finset.univ Φ = iprop(Φ 0 ∗ bigSep Finset.univ fun k : Fin 43 => Φ k.succ) := by
  rw [bigSep_univ_equiv headIx, bigSep_univ_sum, bigSep_univ_eq_bigSepL [0] (by decide) (by decide), bigSepL_singleton]; rfl

omit [FloatOps F] in
/-- Something for every cell of a device, by kind. -/
theorem bigSep_kcells (c : Dev nD) (Φ : GSem nD τ sig → sProp 𝕄) : (bigSep Finset.univ fun k : Fin 44 => Φ (kcell (c, k)))
    = iprop(Φ (barCell c) ∗ Φ (endCell c) ∗ (bigSep Finset.univ fun s => Φ (sendCell c s)) ∗ bigSep Finset.univ fun s => Φ (recvCell c s)) := by
  rw [bigSep_cells]
  simp only [kcell_bar, kcell_end, kcell_send, kcell_recv]

/-- The cells' semaphores are distinct. -/
theorem csem_inj : Function.Injective csem := by decide +kernel
/-- The kernel's own semaphores are distinct, scoped, and none of the staging ones. -/
theorem ownSemFacts : Pipeline.OwnSemFacts cfg0.spec osem := by decide +kernel

/-- The cells of all devices are distinct. -/
theorem kcell_inj : Function.Injective (kcell : Dev nD × Fin 44 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- Every cell of the protocol. -/
def allCells : Finset (GSem nD τ sig) := Finset.univ.map ⟨kcell, kcell_inj⟩

/-! ## The tokens -/

/-- The duties of one device's cells: three of each barrier, one of each transfer's two cells. -/
abbrev Duty : Type := (Fin 2 × Fin 3) ⊕ (Tr ⊕ Tr)
/-- The cell number and the number of a duty. -/
def dutyOf : Duty → Fin 44 × Fin 3
  | .inl (i, d) => (⟨i.val, by have := i.isLt; omega⟩, d)
  | .inr (.inl s) => (sIx s, 0)
  | .inr (.inr s) => (rIx s, 0)
/-- The duties of a device are distinct. -/
theorem dutyOf_inj : Function.Injective dutyOf := by decide +kernel
/-- A duty of a device, as a token is minted for it. -/
abbrev tokOf (x : Dev nD × Duty) : GSem nD τ sig × ℕ × Fin 3 := (kcell (x.1, (dutyOf x.2).1), 0, (dutyOf x.2).2)
/-- The tokens minted are distinct. -/
theorem tokOf_inj : Function.Injective tokOf := by
  rintro ⟨c, j⟩ ⟨c', j'⟩ h
  have h1 := kcell_inj (congrArg Prod.fst h)
  have h2 : dutyOf j = dutyOf j' := Prod.ext (congrArg Prod.snd h1) (congrArg (fun x : GSem nD τ sig × ℕ × Fin 3 => x.2.2) h)
  have h3 : c = c' := congrArg Prod.fst h1
  rw [h3, dutyOf_inj h2]
/-- Every token of the protocol. -/
def allToks : Finset (GSem nD τ sig × ℕ × Fin 3) := Finset.univ.map ⟨tokOf, tokOf_inj⟩

/-- The launch element: the pipeline's, and the protocol's cells and tokens. -/
def u₀ : UU := (initOf (Pipeline.cells cfgs cellOf_inj) (Pipeline.launchToks cfgs cellOf_inj), initOf allCells allToks)

/-- The tokens of device `c`'s own cells. -/
def toks (c : Dev nD) : sProp 𝕄 :=
  iprop((bigSep Finset.univ fun d => dutyTok ER (barCell c) 0 d) ∗ (bigSep Finset.univ fun d => dutyTok ER (endCell c) 0 d)
    ∗ (bigSep Finset.univ fun s => dutyTok ER (sendCell c s) 0 (0 : Fin 3)) ∗ bigSep Finset.univ fun s => dutyTok ER (recvCell c s) 0 (0 : Fin 3))
/-- The tokens of the duties device `c` pays. -/
def payToks (c : Dev nD) : sProp 𝕄 :=
  iprop((bigSep Finset.univ fun d => dutyTok ER (barCell (pr c (mk d))) 0 d) ∗ (bigSep Finset.univ fun d => dutyTok ER (endCell (pr c (mk d))) 0 d)
    ∗ (bigSep Finset.univ fun s => dutyTok ER (sendCell c s) 0 (0 : Fin 3)) ∗ bigSep Finset.univ fun s => dutyTok ER (recvCell (pr c (om s)) s) 0 (0 : Fin 3))

/-- What the launch element deals device `c`. -/
def G (c : Dev nD) : sProp 𝕄 :=
  iprop((bigSep Finset.univ fun k : Fin 44 => roundState ER (sched m) (kcell (c, k)) 0)
    ∗ (bigSep Finset.univ fun k : Fin 44 => iprop(atPos ER (kcell (c, k)) 0 ∅ 0 ∗ reached ER (kcell (c, k)) 0)) ∗ toks c)

omit [FloatOps F] in
/-- The minted tokens, device by device and kind by kind. -/
theorem toks_eq (c : Dev nD) : (bigSep Finset.univ fun j : Duty => (dutyTok ER (tokOf (c, j)).1 (tokOf (c, j)).2.1 (tokOf (c, j)).2.2 : sProp 𝕄)) = toks c := by
  rw [bigSep_univ_sum, bigSep_univ_sum, bigSep_univ_prod, bigSep_univ_eq_bigSepL (I := Fin 2) [0, 1] (by decide) (by decide), bigSepL_cons_cons, bigSepL_singleton]
  unfold toks
  refine (BI.equiv_iff.mp ⟨BI.sep_assoc, BI.sep_assoc'⟩).trans ?_
  rw [← kcell_bar, ← kcell_end]
  simp only [← kcell_send, ← kcell_recv]
  rfl

omit [FloatOps F] in
/-- The launch element pays for every device's cells and tokens. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 44 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- Something for each of a device's partners along given masks is, over all devices, the same for the device itself. -/
theorem bigSep_around {I : Type} [Fintype I] [DecidableEq I] (k : I → Fin 8) (Φ : Dev nD → I → sProp 𝕄) :
    (bigSep Finset.univ fun c => bigSep Finset.univ fun i => Φ c i) = bigSep Finset.univ fun c => bigSep Finset.univ fun i => Φ (pr c (k i)) i := by
  rw [← bigSep_univ_prod (fun x : Dev nD × I => Φ x.1 x.2), ← bigSep_univ_prod (fun x : Dev nD × I => Φ (pr x.1 (k x.2)) x.2)]
  exact bigSep_univ_equiv (⟨fun x => (pr x.1 (k x.2), x.2), fun x => (pr x.1 (k x.2), x.2),
    fun x => Prod.ext (pr_pr _ _) rfl, fun x => Prod.ext (pr_pr _ _) rfl⟩ : Dev nD × I ≃ Dev nD × I) (fun x => Φ x.1 x.2)

omit [FloatOps F] in
/-- The tokens, dealt to the devices that pay them. -/
theorem toks_around : (bigSep Finset.univ fun c : Dev nD => (toks c : sProp 𝕄)) = bigSep Finset.univ fun c : Dev nD => payToks c := by
  unfold toks payToks
  simp only [bigSep_sep']
  rw [bigSep_around mk (fun c d => (dutyTok ER (barCell c) 0 d : sProp 𝕄)), bigSep_around mk (fun c d => (dutyTok ER (endCell c) 0 d : sProp 𝕄)),
    bigSep_around om (fun c s => (dutyTok ER (recvCell c s) 0 (0 : Fin 3) : sProp 𝕄))]

/-! ## The cells' invariants -/

omit [FloatOps F] in
/-- The runtime's barrier is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
/-- All semaphores at zero, as the launch hands them over and takes them back. -/
theorem sems0_eq (c : Dev nD) : (bigSep Finset.univ fun k : Fin 44 => semVal (kcell (c, k)) 0 : sProp 𝕄)
    = iprop(unscopedSems0 c ∗ Pipeline.ownSems0 (Ix := Unit) (Name := ℕ) (U := UU) (Lvl := ℕ) (Val := Elt F) (τ := τ) osem c) := by
  rw [unscopedSems0_eq, bigSep_head, kcell_bar]; rfl

omit [FloatOps F] in
/-- A device's semaphores at zero and its cells' first states become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 44 => semVal (kcell (c, k)) 0) ∗ bigSep Finset.univ fun k : Fin 44 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What all devices know of the cells, without the levels. -/
def records (K : Dev nD × Fin 44 → ℕ) : sProp 𝕄 :=
  iprop((bigSep Finset.univ fun ck => cellInv ER (sched m) (K ck) (kcell ck)) ∗ bigSep Finset.univ fun ck => reached ER (kcell ck) 0)

omit [FloatOps F] in
/-- The records may be kept by every device at once. -/
instance records_persistent (K : Dev nD × Fin 44 → ℕ) : BI.Persistent (records m K) := by unfold records; infer_instance

/-- What is dealt to device `c` alone: its places at its cells and the tokens it pays with. -/
def linear (c : Dev nD) : sProp 𝕄 := iprop((bigSep Finset.univ fun k : Fin 44 => atPos ER (kcell (c, k)) 0 ∅ 0) ∗ payToks c)
/-- What the global step leaves device `c`. -/
def G' (c : Dev nD) : sProp 𝕄 := iprop(∃ K, records m K ∗ linear c)

omit [FloatOps F] in
/-- Something persistent may be used for every member of a separating conjunction. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The cells of all devices are named together, their records given to each device, and the tokens dealt to their payers. -/
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  simp only [bigSep_sep']
  rw [← bigSep_univ_prod (fun ck : Dev nD × Fin 44 => iprop(∃ κ : ℕ, cellInv ER (sched m) κ (kcell ck))),
    ← bigSep_univ_prod (fun ck : Dev nD × Fin 44 => (reached ER (kcell ck) 0 : sProp 𝕄)), toks_around]
  iintro ⟨HI, ⟨Hat, #HR⟩, Htok⟩
  ihave HK := (BI.bigSep_exists_pi Finset.univ (fun (ck : Dev nD × Fin 44) (κ : ℕ) => (cellInv ER (sched m) κ (kcell ck) : sProp 𝕄))) $$ HI
  icases HK with ⟨%K, #HI⟩
  iapply (bigSep_with (R := records m K) (Φ := linear) (Ψ := G' m) fun c _ => by
    unfold G'; iintro H; iexists K; iexact H)
  isplitr
  · unfold records; isplitl; · iexact HI
    iexact HR
  · unfold linear
    simp only [bigSep_sep']
    isplitl [Hat] <;> iassumption

omit [FloatOps F] in
/-- The global step: the semaphores of every device at once become cells. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What all devices together owe one semaphore of every device, each to its partner along one mask. -/
theorem sum_tally (k : Fin 8) (sm sm' : SemLoc sig) (n : ℕ) (c : Dev nD) :
    (∑ d : Dev nD, (tallyAt ((pr d k : Thread nD τ), sm) () n : CellTallies nD τ sig Unit) ((c : Thread nD τ), sm') ()) = if sm' = sm then n else 0 := by
  rw [← Equiv.sum_comp (hop k) (fun d : Dev nD => (tallyAt ((pr d k : Thread nD τ), sm) () n : CellTallies nD τ sig Unit) ((c : Thread nD τ), sm') ()),
    Finset.sum_congr rfl (g := fun d => if d = c then (if sm' = sm then n else 0) else 0), Finset.sum_ite_eq', if_pos (Finset.mem_univ _)]
  intro d _
  show (tallyAt ((pr (pr d k) k : Thread nD τ), sm) () n : CellTallies nD τ sig Unit) ((c : Thread nD τ), sm') () = _
  rw [pr_pr, tallyAt_apply]
  by_cases h : d = c
  · subst h
    by_cases h' : sm' = sm
    · subst h'; rw [if_pos ⟨rfl, rfl⟩, if_pos rfl, if_pos rfl]
    · rw [if_neg (fun e => h' (congrArg Prod.snd e.1)), if_pos rfl, if_neg h']
  · rw [if_neg (fun e => h (congrArg (fun g : GSem nD τ sig => g.1.1) e.1).symm), if_neg h]

/-- What all devices together owe a cell. -/
theorem sum_owed (c : Dev nD) (sm : SemLoc sig) : (∑ d : Dev nD, O₀ d ((c : Thread nD τ), sm) ())
    = (∑ s : Tr, if sm = .dma (recvS s) then N s else 0) + ((if sm = .reg endS then 1 else 0) + (if sm = .reg endS then 1 else 0) + (if sm = .reg endS then 1 else 0))
      + (if sm = .reg barS then 1 else 0) + (if sm = .reg barS then 1 else 0) + (if sm = .reg barS then 1 else 0) := by
  unfold O₀ Oend Osend unitTo
  simp only [Pi.add_apply, Finsupp.add_apply, Finset.sum_add_distrib, sum_tally]
  rw [Finset.filter_true_of_mem (fun s _ => Nat.zero_le _)]
  simp only [Finset.sum_apply, Finsupp.finset_sum_apply]
  rw [Finset.sum_comm]
  simp only [sum_tally]

/-- The launch credit of a cell is what all devices owe it. -/
theorem launch_eq (c : Dev nD) (sm : SemLoc sig) {n : ℕ} (h : (∑ d : Dev nD, O₀ d ((c : Thread nD τ), sm) ()) = n) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, h]

/-- The receive semaphores are distinct. -/
theorem recvS_inj (s t : Tr) (h : recvS s = recvS t) : s = t := by revert s t; decide

/-- All devices together owe an entry barrier three units. -/
theorem owed_bar (c : Dev nD) : (∑ d : Dev nD, O₀ d (barCell c) ()) = 3 := by
  rw [sum_owed, Finset.sum_eq_zero (fun s _ => if_neg (fun h => by cases h)), if_neg (fun h => barS_ne (SemLoc.reg.inj h)), if_pos rfl]
/-- All devices together owe an exit barrier three units. -/
theorem owed_end (c : Dev nD) : (∑ d : Dev nD, O₀ d (endCell c) ()) = 3 := by
  rw [sum_owed, Finset.sum_eq_zero (fun s _ => if_neg (fun h => by cases h)), if_pos rfl, if_neg (fun h => barS_ne (SemLoc.reg.inj h).symm)]
/-- All devices together owe a receive cell its transfer's units. -/
theorem owed_recv (c : Dev nD) (s : Tr) : (∑ d : Dev nD, O₀ d (recvCell c s) ()) = N s := by
  rw [sum_owed, Finset.sum_eq_single s (fun t _ ht => if_neg fun h => ht (recvS_inj s t (SemLoc.dma.inj h)).symm) (fun h => absurd (Finset.mem_univ s) h),
    if_pos rfl, if_neg (fun h => by cases h), if_neg (fun h => by cases h)]; rfl

omit [FloatOps F] in
/-- The launch's credits hold those of a device's two barriers and of its receive cells. -/
theorem creds (c : Dev nD) : (Pipeline.launchCred O₀ c : sProp 𝕄)
    ⊢ iprop(cred (tallyAt (barCell c) () 3) ∗ cred (tallyAt (endCell c) () 3) ∗ bigSep Finset.univ fun s => cred (tallyAt (recvCell c s) () (N s))) := by
  unfold Pipeline.launchCred
  refine (bigSep_subset (Finset.subset_univ (Finset.univ.map ⟨csem, csem_inj⟩))).trans ?_
  rw [bigSep_map]
  show (bigSep Finset.univ fun k : Fin 44 => cred (tallyOn (kcell (c, k)) (launchCredit (Pipeline.owing O₀) 0 (kcell (c, k)))) : sProp 𝕄) ⊢ _
  rw [bigSep_kcells c (fun g => cred (tallyOn g (launchCredit (Pipeline.owing O₀) 0 g))), launch_eq c _ (owed_bar c), launch_eq c _ (owed_end c),
    bigSep_congr fun s _ => congrArg cred (launch_eq c (.dma (recvS s)) (owed_recv c s))]
  iintro ⟨H1, H2, -, H3⟩
  isplitl [H1]; · iexact H1
  isplitl [H2] <;> iassumption

end Cert.Gather

end
-- ==== Proof.Launch.lean ====
/-
The kernel's run on every device: the body's obligation over the staged windows, and the launch.
-/
module

public import proofs.«01_k».proof.Proof.Ghost
public import Idealize.ShloMosaic.Lib.Pipeline.CollectiveSegs
public import proofs.«01_k».proof.Proof.Gen.KernelIdeal.Points

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What device `c` starts with, besides its memory. -/
def start (c : Dev nD) : sProp 𝕄 :=
  iprop(G' m c ∗ (cred (tallyAt (barCell c) () 3) ∗ cred (tallyAt (endCell c) () 3) ∗ bigSep Finset.univ fun s => cred (tallyAt (recvCell c s) () (N s))) ∗ levAts L lv)
/-- The body's state before its only point, and after it. -/
def Φ₀ (c : Dev nD) : sProp 𝕄 := iprop(start m c ∗ (∃ f, bufPts c cc0_scratch0 f) ∗ ∃ f, bufPts c cc0_scratch1 f)

/-- What the windows' staging buffers hold after the body. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Post m c
  q _ := fullShare
  owed t := match t with
    | ⟨0, _⟩ => O₀ c
    | ⟨_ + 1, _⟩ => 0

omit [FloatOps F] in
/-- A whole buffer owned through its memref is its points-to. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄) = bufPts c b X := by
  unfold owns; simp only [Memref.view_whole, View.read_whole, View.set_whole]
  refine BI.equiv_iff.mp ⟨?_, ?_⟩
  · show iprop(∃ f : Buf (Elt F) ((c : Thread nD τ).loc b), ⌜f = X⌝ ∗ bufPts c b f) ⊢ bufPts c b X
    iintro ⟨%f, %h, H⟩
    subst h; iexact H
  · show bufPts c b X ⊢ iprop(∃ f : Buf (Elt F) ((c : Thread nD τ).loc b), ⌜f = X⌝ ∗ bufPts c b f)
    iintro H
    iexists X
    isplitr
    · ipureintro; rfl
    iexact H

/-- The first input's staging buffer holds the device's block of `x`. -/
theorem before_x (c : Dev nD) (d) : (dats m ρ 0 c).before (0 : Fin 3) t0_0 d = xstg m c := by
  have hz : (fun a => (win0_0.index t0_0) a * main_arg0.ty.shape.size a) = fun _ => 0 := funext fun a => by fin_cases a <;> decide
  unfold Dat.before; rw [if_pos (fetch0_0 _)]
  exact Memref.read_access_unit_zero (Elt F) main_arg0 hz (fun a => by fin_cases a <;> decide) _
/-- The second input's staging buffer holds the device's block of `w`. -/
theorem before_w (c : Dev nD) (d) : (dats m ρ 0 c).before (1 : Fin 3) t0_0 d = wstg m c := by
  have hz : (fun a => (win0_1.index t0_0) a * main_arg1.ty.shape.size a) = fun _ => 0 := funext fun a => by fin_cases a <;> decide
  unfold Dat.before; rw [if_pos (fetch0_1 _)]
  exact Memref.read_access_unit_zero (Elt F) main_arg1 hz (fun a => by fin_cases a <;> decide) _

/-! ## The body -/

/-- The body's precondition, its windows written out. -/
def bodyPre (c : Dev nD) : sProp 𝕄 :=
  iprop(Φ₀ m c ∗ (dats m ρ 0 c).owesAt () t0_0.castSucc
    ∗ (∃ d, bufPts c cc0_stg0_0 ((dats m ρ 0 c).before (0 : Fin 3) t0_0 d)) ∗ (∃ d, bufPts c cc0_stg1_0 ((dats m ρ 0 c).before (1 : Fin 3) t0_0 d))
    ∗ ∃ d, bufPts c cc0_stg2_0 ((dats m ρ 0 c).before (2 : Fin 3) t0_0 d))
/-- The body's postcondition, its windows written out. -/
def bodyPost (c : Dev nD) : sProp 𝕄 :=
  iprop(Post m c ∗ (dats m ρ 0 c).owesAt () t0_0.succ
    ∗ bufPts c cc0_stg0_0 (xstg m c) ∗ bufPts c cc0_stg1_0 (wstg m c) ∗ bufPts c cc0_stg2_0 (outAt m c))

omit [FloatOps F] in
/-- What a device starts with, as the body's steps take it. -/
theorem ready (K : Dev nD × Fin 44 → ℕ) (c : Dev nD) :
    iprop((records m K ∗ linear c) ∗ (cred (tallyAt (barCell c) () 3) ∗ cred (tallyAt (endCell c) () 3) ∗ bigSep Finset.univ fun s => cred (tallyAt (recvCell c s) () (N s)))
        ∗ levAts L lv ∗ (∃ f, bufPts c cc0_scratch0 f) ∗ ∃ W, owes (c : Thread nD τ) (O₀ c) W)
      ⊢ iprop(ctx m K ∗ Pre c ∗ meetPre endS c) := by
  unfold linear payToks records ctx Pre meetPre
  rw [bigSep_kcells c (fun g => atPos ER g 0 ∅ 0)]
  iintro ⟨⟨⟨HI, HR⟩, ⟨Hpb, Hpe, Hps, Hpr⟩, Htb, Hte, Hts, Htr⟩, ⟨Hcb, Hce, Hcr⟩, Hlev, Hf, HO⟩
  isplitl [HI HR Hlev]
  · isplitl [HI]; · iexact HI
    isplitl [HR]; · iexact HR
    iexact Hlev
  isplitr [Hpe Hte Hce]
  · isplitl [HO]; · iexact HO
    isplitl [Hpb Htb Hcb]
    · isplitl [Htb]; · iexact Htb
      isplitl [Hcb]; · iexact Hcb
      iexact Hpb
    isplitl [Hps Hts Htr]
    · iapply (show iprop((bigSep Finset.univ fun s => dutyTok ER (sendCell c s) 0 (0 : Fin 3)) ∗ (bigSep Finset.univ fun s => dutyTok ER (recvCell (pr c (om s)) s) 0 (0 : Fin 3))
          ∗ bigSep Finset.univ fun s => atPos ER (sendCell c s) 0 ∅ 0) ⊢ (bigSep Finset.univ fun s => sendPre c s : sProp 𝕄) from by
        unfold sendPre; rw [bigSep_sep', bigSep_sep'])
      isplitl [Hts]; · iexact Hts
      isplitl [Htr]; · iexact Htr
      iexact Hps
    isplitl [Hpr Hcr]
    · iapply (show iprop((bigSep Finset.univ fun s => cred (tallyAt (recvCell c s) () (N s))) ∗ bigSep Finset.univ fun s => atPos ER (recvCell c s) 0 ∅ 0)
          ⊢ (bigSep Finset.univ fun s => recvSt 0 c s : sProp 𝕄) from by
        rw [← bigSep_sep']
        exact bigSep_mono fun s _ => by unfold recvSt; rw [if_pos (Nat.zero_le _)]; exact BI.Entails.refl _)
      isplitl [Hcr]; · iexact Hcr
      iexact Hpr
    iexact Hf
  · isplitl [Hte]; · iexact Hte
    isplitl [Hce]; · iexact Hce
    iexact Hpe

/-- The body, from its precondition to its postcondition. -/
theorem body_sound (c : Dev nD) : bodyPre m ρ c ⊢ wpc c (run (cc0_body (F := F))) fun _ => bodyPost m ρ c := by
  have hb (K : Dev nD × Fin 44 → ℕ) := body_wp m K c (Q := fun _ => bodyPost m ρ c) (by
    unfold bodyPost Dat.owesAt Pipeline.owesWithin
    iintro ⟨⟨%W, HO⟩, HP, Hx, Hw, Ho⟩
    isplitl [HP]; · iexact HP
    isplitl [HO]
    · iexists W
      isplitr
      · ipureintro; exact fun _ _ => Or.inl trivial
      iexact HO
    isplitl [Hx]; · iexact Hx
    isplitl [Hw]; · iexact Hw
    iexact Ho)
  unfold bodyPre Φ₀ start G' Dat.owesAt Pipeline.owesWithin
  simp only [before_x, before_w]
  rw [show (dats m ρ 0 c).owed t0_0.castSucc = O₀ c from rfl]
  iintro ⟨⟨⟨⟨%K, HK⟩, Hcr, Hlev⟩, Hs0, Hs1⟩, ⟨%W, -, HO⟩, ⟨%d0, Hx⟩, ⟨%d1, Hw⟩, ⟨%d2, Ho⟩⟩
  ihave H := (ready m K c) $$ [HK Hcr Hlev Hs0 HO]
  · isplitl [HK]; · iexact HK
    isplitl [Hcr]; · iexact Hcr
    isplitl [Hlev]; · iexact Hlev
    isplitl [Hs0]; · iexact Hs0
    iexists W; iexact HO
  icases H with ⟨Hctx, HP, HM⟩
  iapply (hb K)
  isplitl [Hctx]; · iexact Hctx
  isplitr [HM]
  · isplitl [HP]; · iexact HP
    unfold Bufs
    isplitl [Hx]; · iexact Hx
    isplitl [Hw]; · iexact Hw
    isplitl [Hs1]; · iexact Hs1
    iexists _; iexact Ho
  iexact HM

set_option maxRecDepth 16384 in
/-- The body's obligation at its only point. -/
theorem body_obligation (c : Dev nD) : BodyObligation (dats m ρ 0 c) (defs₀ (F := F)) 𝒱₀ () Set.univ := fun t => by
  rw [fin_N0 t]
  rw [bigSep_W0, bigSep_W0]
  simp only [owns_buf]
  exact body_sound m ρ c

/-! ## The launch -/

omit [FloatOps F] in
/-- Every array is held in full. -/
theorem share_eq [FloatOps F] (c : Dev nD) (w : Fin cfg0.W) : (dats m ρ 0 c).share w = fullShare := by unfold Dat.share; split <;> rfl

omit [FloatOps F] in
/-- What the launch hands a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  iempintro

/-- With the scratch buffers it is the body's first state. -/
theorem phi0_intro (c : Dev nD) : iprop(start m c ∗ Pipeline.prefHeld Pipeline.Prefetch.none c (fun _ => fullShare.right) (fun k => k.elim0) ∗ Pipeline.scopedRest cfg0.spec c)
    ⊢ (dats m ρ 0 c).Φ 0 := by
  rw [show (dats m ρ 0 c).Φ 0 = Φ₀ m c from rfl, scopedRest0_eq]
  unfold Φ₀
  iintro ⟨Hs, -, H⟩
  isplitl [Hs]; · iexact Hs
  iexact H

/-- The body's last state gives back every semaphore at zero and the scratch buffers. -/
theorem phi1_exit (c : Dev nD) : (dats m ρ 0 c).Φ (Fin.last cfg0.N)
    ⊢ iprop(unscopedSems0 c ∗ Pipeline.ownSems0 (Ix := Unit) (Name := ℕ) (U := UU) (Lvl := ℕ) (Val := Elt F) (τ := τ) osem c ∗ Pipeline.scopedRest cfg0.spec c) := by
  rw [show (dats m ρ 0 c).Φ (Fin.last cfg0.N) = Post m c from rfl, scopedRest0_eq]
  unfold Post
  iintro ⟨Hs, Hr, Hb, He, Hc, Hw⟩
  ihave H := (Entails.of_eq ((bigSep_kcells (F := F) c fun g => semVal g 0).symm.trans (sems0_eq c))) $$ [Hs Hr Hb He]
  · isplitl [Hb]; · iexact Hb
    isplitl [He]; · iexact He
    isplitl [Hs]; · iexact Hs
    iexact Hr
  icases H with ⟨Hu, Ho⟩
  isplitl [Hu]; · iexact Hu
  isplitl [Ho]; · iexact Ho
  isplitl [Hc]
  · iexists gath m
    ihave Hc := (Entails.of_eq (cPts_buf c (gath m))) $$ Hc
    iexact Hc
  iexists wstg m c; iexact Hw

/-- The pipeline's own waits are below everything owed. -/
theorem waits (c : Dev nD) : (levAts L lv : sProp 𝕄) ⊢ Pipeline.cellsWaits cfgs (dats m ρ) () 0 c :=
  Pipeline.cellsWaits_intro cfgs (dats m ρ) () 0 c fun w s t =>
    mayWait c _ (n := 0) (Nat.le_of_eq (by fin_cases w <;> fin_cases s <;> rfl)) (by
      rcases t with ⟨_ | _, ht⟩
      · exact above_O₀ c
      · exact Above.zero 0)

/-- The windows' arrays after the run. -/
def finalA (c : Dev nD) (w : Fin cfg0.W) : Buf (Elt F) ((cfg0.win w).arr.view.loc (c : Thread nD τ)) := (dats m ρ 0 c).arrAt w cfg0.N
/-- Every device's arrays are as the run leaves them. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, all eight devices' kernels run to their end, and every counter is zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- The array of `x` ends as it was. -/
theorem final_x (c : Dev nD) : finalA m ρ c (0 : Fin 3) = m ((c : Thread nD τ).loc main_arg0) := (dats m ρ 0 c).arrAt_in (0 : Fin 3) rfl _
/-- The array of `w` ends as it was. -/
theorem final_w (c : Dev nD) : finalA m ρ c (1 : Fin 3) = m ((c : Thread nD τ).loc main_arg1) := (dats m ρ 0 c).arrAt_in (1 : Fin 3) rfl _

/-- The result's array ends with what the body left in its staging buffer. -/
theorem final_out (c : Dev nD) : finalA m ρ c (2 : Fin 3) = outAt m c := by
  have hz : (fun a => (win0_2.index t0_0) a * main_v1.ty.shape.size a) = fun _ => 0 := funext fun a => by fin_cases a <;> decide
  have h : (win0_2.blk t0_0).view.read (Elt F) (finalA m ρ c (2 : Fin 3)) = outAt m c := by
    unfold finalA
    rw [show cfg0.N = t0_0.val + 1 from rfl, (dats m ρ 0 c).arrAt_succ (2 : Fin 3) t0_0, if_pos (flush0_2 _)]
    exact View.read_write_univ _ _
  exact (Memref.read_access_unit_zero (Elt F) main_v1 hz (fun a => by fin_cases a <;> decide) _).symm.trans h

/-- The run, read at the buffers the claims speak of. -/
theorem run_bufs : θ_run defs (onTc (τ := τ) (main (F := F))) (s₀ m ρ) (fun r => (∀ c : Dev nD,
      r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = outAt m c) ∧ r.2.sem = fun _ => 0) :=
  (θ_run defs _ _).mono (fun _ h => ⟨fun c => ⟨(h.1 c (0 : Fin 3)).trans (final_x m ρ c), (h.1 c (1 : Fin 3)).trans (final_w m ρ c),
    (h.1 c (2 : Fin 3)).trans (final_out m ρ c)⟩, h.2⟩) (run_main m ρ)

end Cert.Gather

end
-- ==== Proof.Value.lean ====
/-
The kernel's result over the extended reals: device `c` ends with its block of columns of the product.
-/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.Gather

open Cert.KernelIdeal Cert.KernelIdeal.Gen
open Idealize.ShloMosaic Idealize.ShloMosaic.TcCoe

/-- The whole matrix's type: `x`, `w`, and the product. -/
abbrev Whole : Shape := ⟨2, ![2048, 2048]⟩

/-- The reference's result: the product, rounded to bf16 and back, which over the extended reals changes nothing. -/
def product (X W : Whole.Idx → EReal) : Whole.Idx → EReal :=
  extf (F := Ideal) .f32 (truncf (F := Ideal) .bf16 (Host.dotGeneral (F := Ideal) (φ₁ := .bf16) (φ₂ := .bf16)
    Cert.ReferenceIdeal.dot_S2048x2048_S2048x2048_S2048x2048_1_0_0_1_n_n none X W) Cert.ReferenceIdeal.Facts₀.bitsLt_bf16_f32) Cert.ReferenceIdeal.Facts₀.bitsLt_bf16_f32

/-- An element of the reference's result is a row of `x` times a column of `w`. -/
theorem product_apply (X W : Whole.Idx → EReal) (i j : Fin 2048) : product X W (ValueIdx.ix2 i j) = ∑ k : Fin 2048, X (ValueIdx.ix2 i k) * W (ValueIdx.ix2 k j) :=
  StackMember.dotGeneral_plain_apply (m := 2048) (n := 2048) (k := 2048) (φ₁ := .bf16) (φ₂ := .bf16) none X W i j

variable (m : (ℓ : Loc nD τ sig) → Buf (Elt Ideal) ℓ)

/-- An element of device `c`'s result is a row of the gathered matrix times a column of its block of `w`. -/
theorem outAt_apply (c : Dev nD) (i : Fin 2048) (j : Fin 256) :
    (outAt m c : S2048x256.Idx → EReal) (ValueIdx.ix2 i j) = ∑ k : Fin 2048, (gath m (ValueIdx.ix2 i k) : EReal) * (wstg m c (ValueIdx.ix2 k j) : EReal) := by
  refine (Ideal.matmul_plain_apply (M := 2048) (K := 2048) (N := 256) (φ₁ := .bf16) (φ₂ := .bf16) none (gath m) (wstg m c)
    (constant S2048x256 .f32 0x00000000#32) i j).trans ?_
  show Ideal.ofBits .f32 0x00000000#32 + _ = _
  rw [Ideal.ofBits_zero_f32, zero_add]

/-- If each device holds its block of rows of `X`, the gathered matrix is `X`. -/
theorem gath_eq (X : Whole.Idx → EReal)
    (h : ∀ c : Dev nD, m ((c : Thread nD τ).loc main_arg0) = Layout.block ⟨2, ![256, 2048]⟩ Whole 0 8 c X) (i k : Fin 2048) :
    (gath m (ValueIdx.ix2 i k) : EReal) = X (ValueIdx.ix2 i k) := by
  have hi := i.isLt
  have e := congrFun (h ⟨i.val / 256, by show _ < 8; omega⟩) (ValueIdx.ix2 ⟨i.val % 256, Nat.mod_lt _ (by decide)⟩ k)
  refine (show _ = _ from e).trans ?_
  rw [Layout.block_apply]
  refine congrArg X (funext fun a => Fin.ext ?_)
  match a with
  | ⟨0, _⟩ =>
    show i.val / 256 * 256 + i.val % 256 = i.val
    omega
  | ⟨1, _⟩ => rfl

/-- Device `c`'s result is its block of columns of the reference's. -/
theorem outAt_eq (X W : Whole.Idx → EReal)
    (hX : ∀ c : Dev nD, m ((c : Thread nD τ).loc main_arg0) = Layout.block ⟨2, ![256, 2048]⟩ Whole 0 8 c X)
    (hW : ∀ c : Dev nD, m ((c : Thread nD τ).loc main_arg1) = Layout.block ⟨2, ![2048, 256]⟩ Whole 1 8 c W) (c : Dev nD) :
    (outAt m c : S2048x256.Idx → EReal) = Layout.block ⟨2, ![2048, 256]⟩ Whole 1 8 c (product X W) := by
  funext y
  obtain ⟨i, j, rfl⟩ : ∃ (i : Fin 2048) (j : Fin 256), y = ValueIdx.ix2 i j := ⟨y 0, y 1, ValueIdx.eq_ix2 y⟩
  have hj := j.isLt
  have hc : c.val < 8 := c.isLt
  have hi (p : Fin 2048) : (Layout.Tiles.idx (by decide : Layout.Tiles ⟨2, ![2048, 256]⟩ Whole 1 8) c (ValueIdx.ix2 p j) : Whole.Idx)
      = ValueIdx.ix2 p ⟨c.val * 256 + j.val, by omega⟩ := funext fun a => Fin.ext (by match a with | ⟨0, _⟩ => rfl | ⟨1, _⟩ => rfl)
  rw [outAt_apply, Layout.block_apply, hi, product_apply]
  refine Finset.sum_congr rfl fun k _ => ?_
  rw [gath_eq m X hX]
  refine congrArg (X (ValueIdx.ix2 i k) * ·) ?_
  refine (show _ = _ from congrFun (hW c) (ValueIdx.ix2 k j)).trans ?_
  rw [Layout.block_apply, hi]

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Gather

/-- The two kernel programs have one body. -/
theorem defs₀_eq : (Cert.Kernel.defs₀ (F := Bits) : Defs Cert.Kernel.nD Cert.Kernel.τ Cert.Kernel.sig (Elt Bits) Cert.Kernel.Λ₀) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- The two kernel programs have one table of bodies. -/
theorem defs_eq : (Cert.Kernel.defs (F := Bits) : Defs Cert.Kernel.nD Cert.Kernel.τ Cert.Kernel.sig (Elt Bits)
      (Pipeline.Sig Cert.Kernel.Λ₀ (Fin 1) fun p => (Cert.Kernel.pcfgs (F := Bits) p).Adm)) = Cert.KernelIdeal.defs (F := Bits) :=
  congrArg (Pipeline.defs (Cert.Kernel.pcfgs (F := Bits))) defs₀_eq

/-- The kernel at bit patterns leaves its arguments and every semaphore as they were: it is the same text as the ideal one, whose run
    holds for any float values. -/
theorem frame_kernel : Cert.quiescent_Kernel := fun m ρ _ => by
  rw [defs_eq]
  exact (θ_run (Cert.KernelIdeal.defs (F := Bits)) _ _).mono (fun _ h => ⟨fun c => ⟨(h.1 c).1, (h.1 c).2.1⟩, h.2⟩) (run_bufs (F := Bits) m ρ)

/-- The kernel over the extended reals leaves its arguments and every semaphore as they were. -/
theorem frame_ideal : Cert.quiescent_KernelIdeal := fun m ρ _ =>
  (θ_run Cert.KernelIdeal.defs _ _).mono (fun _ h => ⟨fun c => ⟨(h.1 c).1, (h.1 c).2.1⟩, h.2⟩) (run_bufs (F := Ideal) m ρ)

/-- The reference leaves its arguments as they were, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device ends with its block of columns of the reference's result. -/
theorem value : Cert.algebraic_KernelIdeal_ReferenceIdeal := fun m ρ m' ρ' _ hb =>
  ⟨product _ _,
    (θ_run Cert.KernelIdeal.defs _ _).mono (fun _ h c => ⟨(h.1 c).2.2.trans (outAt_eq m _ _ (fun c => (hb c).1) (fun c => (hb c).2) c), (h.1 c).1, (h.1 c).2.1⟩)
      (run_bufs (F := Ideal) m ρ),
    (θ_run Cert.ReferenceIdeal.defs _ _).mono (fun _ h => h 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
